-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ preserves_Kernel_KernelIdeal
    ∧ algebraic_KernelIdeal_ReferenceIdeal_pre_below_infinity (hKernelIdeal := hKernelIdeal) (hReferenceIdeal := hReferenceIdeal) (hPre_below_infinity := hPre_below_infinity)
-- ==== Pre_below_infinity.lean ====
abbrev S4x19x512x512 : Shape := ⟨4, ![4, 19, 512, 512]⟩
abbrev S19x9x15 : Shape := ⟨3, ![19, 9, 15]⟩
abbrev S_ : Shape := ⟨0, ![]⟩

class Facts : Prop where
  bcast_S_S4x19x512x512 : S_.BroadcastsInDim S4x19x512x512 (![] : Fin 0 → Fin S4x19x512x512.rank)
  reducesTo_S4x19x512x512_S_d0_1_2_3 : S4x19x512x512.ReducesTo [0, 1, 2, 3] S_
  h_S_ : 0 < S_.numel

variable [Facts]

def fn {F : FTy → Type} [FloatOps F] (main_arg0 : FVec F S4x19x512x512 .f32) (main_arg1 : FVec F S19x9x15 .f32) : IVec S_ 1 :=
  let main_cst : FVec F S_ .f32 := constant S_ .f32 0x7F800000#32
  let main_v0 : FVec F S4x19x512x512 .f32 := broadcastInDim S4x19x512x512 ![] bcast_S_S4x19x512x512 main_cst
  let main_v1 : IVec S4x19x512x512 1 := cmpf .olt main_arg0 main_v0
  let main_c : IVec S_ 1 := constantI S_ 1 1#1
  let main_v2 : IVec S_ 1 := (fun x v => Host.reduce IntOp.andi x v reducesTo_S4x19x512x512_S_d0_1_2_3 h_S_) main_v1 main_c
  main_v2
-- ==== Kernel.lean ====
abbrev S4x19x512x512 : Shape := ⟨4, ![4, 19, 512, 512]⟩
abbrev S19x9x15 : Shape := ⟨3, ![19, 9, 15]⟩
abbrev S4 : Shape := ⟨1, ![4]⟩
abbrev S19x135 : Shape := ⟨2, ![19, 135]⟩
abbrev S_ : Shape := ⟨0, ![]⟩
abbrev S19x2x128 : Shape := ⟨3, ![19, 2, 128]⟩
abbrev S19x128 : Shape := ⟨2, ![19, 128]⟩
abbrev S1 : Shape := ⟨1, ![1]⟩
abbrev S19x7 : Shape := ⟨2, ![19, 7]⟩
abbrev S2 : Shape := ⟨1, ![2]⟩
abbrev S4x1 : Shape := ⟨2, ![4, 1]⟩
abbrev S4x19x4x512 : Shape := ⟨4, ![4, 19, 4, 512]⟩
abbrev S4x19x4x1x512 : Shape := ⟨5, ![4, 19, 4, 1, 512]⟩
abbrev S1x19x128x512 : Shape := ⟨4, ![1, 19, 128, 512]⟩
abbrev S1x19x1x1x512 : Shape := ⟨5, ![1, 19, 1, 1, 512]⟩
abbrev S1x1x128x512 : Shape := ⟨4, ![1, 1, 128, 512]⟩
abbrev S128x512 : Shape := ⟨2, ![128, 512]⟩
abbrev S1x1x1x1x512 : Shape := ⟨5, ![1, 1, 1, 1, 512]⟩
abbrev S1x512 : Shape := ⟨2, ![1, 512]⟩
abbrev S130x512 : Shape := ⟨2, ![130, 512]⟩
abbrev S130x1 : Shape := ⟨2, ![130, 1]⟩
abbrev S130x511 : Shape := ⟨2, ![130, 511]⟩
abbrev S1x2x128 : Shape := ⟨3, ![1, 2, 128]⟩
abbrev S2x128 : Shape := ⟨2, ![2, 128]⟩
abbrev S1x128 : Shape := ⟨2, ![1, 128]⟩
abbrev S128x128 : Shape := ⟨2, ![128, 128]⟩
abbrev S128x128x1 : Shape := ⟨3, ![128, 128, 1]⟩

abbrev nBuf : Space → Nat
  | .hbm => 35
  | .vmem => 9
  | .smem => 0
  | _ => 0

abbrev bufTy : (tb : Table) → Fin (tcTables nBuf tb) → BufTy
  | .hbm, ⟨0, _⟩ => ⟨S4x19x512x512, .f32⟩
  | .hbm, ⟨1, _⟩ => ⟨S19x9x15, .f32⟩
  | .hbm, ⟨2, _⟩ => ⟨S4, .i32⟩
  | .hbm, ⟨3, _⟩ => ⟨S4, .i1⟩
  | .hbm, ⟨4, _⟩ => ⟨S4, .i32⟩
  | .hbm, ⟨5, _⟩ => ⟨S4, .i1⟩
  | .hbm, ⟨6, _⟩ => ⟨S19x135, .f32⟩
  | .hbm, ⟨7, _⟩ => ⟨S_, .f32⟩
  | .hbm, ⟨8, _⟩ => ⟨S19x2x128, .f32⟩
  | .hbm, ⟨9, _⟩ => ⟨S19x128, .f32⟩
  | .hbm, ⟨10, _⟩ => ⟨S_, .i32⟩
  | .hbm, ⟨11, _⟩ => ⟨S1, .i32⟩
  | .hbm, ⟨12, _⟩ => ⟨S19x2x128, .f32⟩
  | .hbm, ⟨13, _⟩ => ⟨S19x7, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S19x2x128, .f32⟩
  | .hbm, ⟨20, _⟩ => ⟨S_, .i32⟩
  | .hbm, ⟨21, _⟩ => ⟨S4, .i32⟩
  | .hbm, ⟨22, _⟩ => ⟨S4, .i32⟩
  | .hbm, ⟨23, _⟩ => ⟨S4, .i32⟩
  | .hbm, ⟨24, _⟩ => ⟨S4x1, .i32⟩
  | .hbm, ⟨25, _⟩ => ⟨S4x19x4x512, .f32⟩
  | .hbm, ⟨26, _⟩ => ⟨S4x19x4x1x512, .f32⟩
  | .hbm, ⟨27, _⟩ => ⟨S_, .i32⟩
  | .hbm, ⟨28, _⟩ => ⟨S4, .i32⟩
  | .hbm, ⟨29, _⟩ => ⟨S4, .i32⟩
  | .hbm, ⟨30, _⟩ => ⟨S4, .i32⟩
  | .hbm, ⟨31, _⟩ => ⟨S4x1, .i32⟩
  | .hbm, ⟨32, _⟩ => ⟨S4x19x4x512, .f32⟩
  | .hbm, ⟨33, _⟩ => ⟨S4x19x4x1x512, .f32⟩
  | .hbm, ⟨34, _⟩ => ⟨S4x19x512x512, .f32⟩
  | .local _ .vmem, ⟨0, _⟩ => ⟨S19x2x128, .f32⟩
  | .local _ .vmem, ⟨1, _⟩ => ⟨S1x19x128x512, .f32⟩
  | .local _ .vmem, ⟨2, _⟩ => ⟨S1x19x128x512, .f32⟩
  | .local _ .vmem, ⟨3, _⟩ => ⟨S1x19x1x1x512, .f32⟩
  | .local _ .vmem, ⟨4, _⟩ => ⟨S1x19x1x1x512, .f32⟩
  | .local _ .vmem, ⟨5, _⟩ => ⟨S1x19x1x1x512, .f32⟩
  | .local _ .vmem, ⟨6, _⟩ => ⟨S1x19x1x1x512, .f32⟩
  | .local _ .vmem, ⟨7, _⟩ => ⟨S1x19x128x512, .f32⟩
  | .local _ .vmem, ⟨8, _⟩ => ⟨S1x19x128x512, .f32⟩
  | _, _ => ⟨S4x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_c_5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_6 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_7 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S19x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x19x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x19x1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x19x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x19x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x19x512x512 : Shape := ⟨4, ![4, 19, 512, 512]⟩
abbrev S19x9x15 : Shape := ⟨3, ![19, 9, 15]⟩
abbrev S_ : Shape := ⟨0, ![]⟩
abbrev S4x512x512 : Shape := ⟨3, ![4, 512, 512]⟩
abbrev S4x1x512x512 : Shape := ⟨4, ![4, 1, 512, 512]⟩
abbrev S19 : Shape := ⟨1, ![19]⟩
abbrev S1x19x1x1 : Shape := ⟨4, ![1, 19, 1, 1]⟩
abbrev S4x19x514x514 : Shape := ⟨4, ![4, 19, 514, 514]⟩
abbrev S4x19x512x512x1 : Shape := ⟨5, ![4, 19, 512, 512, 1]⟩
abbrev S4x19x512x512x3 : Shape := ⟨5, ![4, 19, 512, 512, 3]⟩

abbrev nBuf : Space → Nat
  | .hbm => 142
  | .vmem => 0
  | .smem => 0
  | _ => 0

abbrev hbmTy0_0 (i : Nat) : BufTy := match i % 128 with
  | 0 => ⟨S4x19x512x512, .f32⟩
  | 1 => ⟨S19x9x15, .f32⟩
  | 2 => ⟨S_, .f32⟩
  | 3 => ⟨S4x512x512, .f32⟩
  | 4 => ⟨S_, .f32⟩
  | 5 => ⟨S4x512x512, .f32⟩
  | 6 => ⟨S4x512x512, .f32⟩
  | 7 => ⟨S4x1x512x512, .f32⟩
  | 8 => ⟨S4x19x512x512, .f32⟩
  | 9 => ⟨S4x19x512x512, .f32⟩
  | 10 => ⟨S4x19x512x512, .f32⟩
  | 11 => ⟨S_, .f32⟩
  | 12 => ⟨S4x512x512, .f32⟩
  | 13 => ⟨S4x1x512x512, .f32⟩
  | 14 => ⟨S4x19x512x512, .f32⟩
  | 15 => ⟨S4x19x512x512, .f32⟩
  | 16 => ⟨S4x19x512x512, .i32⟩
  | 17 => ⟨S_, .f32⟩
  | 18 => ⟨S_, .i32⟩
  | 19 => ⟨S4x512x512, .f32⟩
  | 20 => ⟨S4x512x512, .i32⟩
  | 21 => ⟨S19, .i32⟩
  | 22 => ⟨S1x19x1x1, .i32⟩
  | 23 => ⟨S4x1x512x512, .i32⟩
  | 24 => ⟨S4x19x512x512, .i32⟩
  | 25 => ⟨S4x19x512x512, .i32⟩
  | 26 => ⟨S4x19x512x512, .i1⟩
  | 27 => ⟨S4x19x512x512, .i32⟩
  | 28 => ⟨S4x19x512x512, .f32⟩
  | 29 => ⟨S_, .f32⟩
  | 30 => ⟨S4x19x512x512, .f32⟩
  | 31 => ⟨S_, .i32⟩
  | 32 => ⟨S_, .f32⟩
  | 33 => ⟨S4x19x514x514, .f32⟩
  | 34 => ⟨S_, .f32⟩
  | 35 => ⟨S4x19x512x512, .f32⟩
  | 36 => ⟨S4x19x512x512, .f32⟩
  | 37 => ⟨S4x19x512x512, .f32⟩
  | 38 => ⟨S4x19x512x512, .f32⟩
  | 39 => ⟨S4x19x512x512, .f32⟩
  | 40 => ⟨S4x19x512x512, .f32⟩
  | 41 => ⟨S4x19x512x512, .f32⟩
  | 42 => ⟨S4x19x512x512, .f32⟩
  | 43 => ⟨S4x19x512x512, .f32⟩
  | 44 => ⟨S4x19x512x512, .f32⟩
  | 45 => ⟨S4x19x512x512, .f32⟩
  | 46 => ⟨S4x19x512x512, .f32⟩
  | 47 => ⟨S4x19x512x512, .f32⟩
  | 48 => ⟨S4x19x512x512, .f32⟩
  | 49 => ⟨S4x19x512x512, .f32⟩
  | 50 => ⟨S4x19x512x512, .f32⟩
  | 51 => ⟨S4x19x512x512, .f32⟩
  | 52 => ⟨S_, .i32⟩
  | 53 => ⟨S_, .f32⟩
  | 54 => ⟨S4x19x514x514, .f32⟩
  | 55 => ⟨S_, .f32⟩
  | 56 => ⟨S4x19x512x512, .f32⟩
  | 57 => ⟨S4x19x512x512, .f32⟩
  | 58 => ⟨S4x19x512x512, .f32⟩
  | 59 => ⟨S4x19x512x512, .f32⟩
  | 60 => ⟨S4x19x512x512, .f32⟩
  | 61 => ⟨S4x19x512x512, .f32⟩
  | 62 => ⟨S4x19x512x512, .f32⟩
  | 63 => ⟨S4x19x512x512, .f32⟩
  | 64 => ⟨S4x19x512x512, .f32⟩
  | 65 => ⟨S4x19x512x512, .f32⟩
  | 66 => ⟨S4x19x512x512, .f32⟩
  | 67 => ⟨S4x19x512x512, .f32⟩
  | 68 => ⟨S4x19x512x512, .f32⟩
  | 69 => ⟨S4x19x512x512, .f32⟩
  | 70 => ⟨S4x19x512x512, .f32⟩
  | 71 => ⟨S4x19x512x512, .f32⟩
  | 72 => ⟨S4x19x512x512, .f32⟩
  | 73 => ⟨S4x19x512x512, .f32⟩
  | 74 => ⟨S_, .f32⟩
  | 75 => ⟨S4x19x512x512, .f32⟩
  | 76 => ⟨S4x19x512x512, .f32⟩
  | 77 => ⟨S4x19x512x512, .f32⟩
  | 78 => ⟨S4x19x512x512, .f32⟩
  | 79 => ⟨S4x19x512x512, .f32⟩
  | 80 => ⟨S4x19x512x512, .f32⟩
  | 81 => ⟨S4x19x512x512, .i32⟩
  | 82 => ⟨S_, .i32⟩
  | 83 => ⟨S_, .i32⟩
  | 84 => ⟨S_, .i32⟩
  | 85 => ⟨S4x19x512x512, .i32⟩
  | 86 => ⟨S4x19x512x512, .i32⟩
  | 87 => ⟨S_, .i32⟩
  | 88 => ⟨S4x19x512x512, .i32⟩
  | 89 => ⟨S4x19x512x512, .i32⟩
  | 90 => ⟨S_, .f32⟩
  | 91 => ⟨S4x19x512x512, .f32⟩
  | 92 => ⟨S4x19x512x512, .f32⟩
  | 93 => ⟨S4x19x512x512, .f32⟩
  | 94 => ⟨S4x19x512x512, .i32⟩
  | 95 => ⟨S_, .i32⟩
  | 96 => ⟨S_, .i32⟩
  | 97 => ⟨S_, .i32⟩
  | 98 => ⟨S4x19x512x512, .i32⟩
  | 99 => ⟨S4x19x512x512, .i32⟩
  | 100 => ⟨S_, .i32⟩
  | 101 => ⟨S4x19x512x512, .i32⟩
  | 102 => ⟨S4x19x512x512, .i32⟩
  | 103 => ⟨S_, .i32⟩
  | 104 => ⟨S1x19x1x1, .i32⟩
  | 105 => ⟨S1x19x1x1, .i1⟩
  | 106 => ⟨S_, .i32⟩
  | 107 => ⟨S1x19x1x1, .i32⟩
  | 108 => ⟨S1x19x1x1, .i32⟩
  | 109 => ⟨S1x19x1x1, .i32⟩
  | 110 => ⟨S_, .i32⟩
  | 111 => ⟨S4x19x512x512, .i32⟩
  | 112 => ⟨S4x19x512x512, .i1⟩
  | 113 => ⟨S_, .i32⟩
  | 114 => ⟨S4x19x512x512, .i32⟩
  | 115 => ⟨S4x19x512x512, .i32⟩
  | 116 => ⟨S4x19x512x512, .i32⟩
  | 117 => ⟨S_, .i32⟩
  | 118 => ⟨S4x19x512x512, .i32⟩
  | 119 => ⟨S4x19x512x512, .i1⟩
  | 120 => ⟨S_, .i32⟩
  | 121 => ⟨S4x19x512x512, .i32⟩
  | 122 => ⟨S4x19x512x512, .i32⟩
  | 123 => ⟨S4x19x512x512, .i32⟩
  | 124 => ⟨S4x19x512x512, .i32⟩
  | 125 => ⟨S4x19x512x512x1, .i32⟩
  | 126 => ⟨S4x19x512x512x1, .i32⟩
  | 127 => ⟨S4x19x512x512x1, .i32⟩
  | _ => ⟨S4x19x512x512, .f32⟩

abbrev hbmTy0_1 (i : Nat) : BufTy := match i % 128 with
  | 0 => ⟨S4x19x512x512x3, .i32⟩
  | 1 => ⟨S4x19x512x512, .f32⟩
  | 2 => ⟨S_, .f32⟩
  | 3 => ⟨S4x512x512, .f32⟩
  | 4 => ⟨S4x1x512x512, .f32⟩
  | 5 => ⟨S_, .f32⟩
  | 6 => ⟨S4x1x512x512, .f32⟩
  | 7 => ⟨S4x1x512x512, .i1⟩
  | 8 => ⟨S_, .f32⟩
  | 9 => ⟨S_, .f32⟩
  | 10 => ⟨S4x1x512x512, .f32⟩
  | 11 => ⟨S4x1x512x512, .f32⟩
  | 12 => ⟨S4x19x512x512, .f32⟩
  | 13 => ⟨S4x19x512x512, .f32⟩
  | _ => ⟨S4x19x512x512, .f32⟩

abbrev hbmTy (i : Nat) : BufTy := match i / 128 with
  | 0 => hbmTy0_0 i
  | 1 => hbmTy0_1 i
  | _ => ⟨S4x19x512x512, .f32⟩

abbrev bufTy : (tb : Table) → Fin (tcTables nBuf tb) → BufTy
  | .hbm, ⟨i, _⟩ => hbmTy i
  | _, _ => ⟨S4x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_cst : Ref sig .tc := ⟨.hbm, 17, rfl⟩
abbrev main_call0_c : Ref sig .tc := ⟨.hbm, 18, rfl⟩
abbrev main_call0_v1_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_c : Ref sig .tc := ⟨.hbm, 31, rfl⟩
abbrev main_call1_v0 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_4 : Ref sig .tc := ⟨.hbm, 52, rfl⟩
abbrev main_call2_v0 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_6 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_7 : Ref sig .tc := ⟨.hbm, 82, rfl⟩
abbrev main_c_8 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_v65 : Ref sig .tc := ⟨.hbm, 89, rfl⟩
abbrev main_cst_9 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_10 : Ref sig .tc := ⟨.hbm, 95, rfl⟩
abbrev main_c_11 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_v70 : Ref sig .tc := ⟨.hbm, 102, rfl⟩
abbrev main_c_12 : Ref sig .tc := ⟨.hbm, 103, rfl⟩
abbrev main_v71 : Ref sig .tc := ⟨.hbm, 104, rfl⟩
abbrev main_v72 : Ref sig .tc := ⟨.hbm, 105, rfl⟩
abbrev main_c_13 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_14 : Ref sig .tc := ⟨.hbm, 110, rfl⟩
abbrev main_v76 : Ref sig .tc := ⟨.hbm, 111, rfl⟩
abbrev main_v77 : Ref sig .tc := ⟨.hbm, 112, rfl⟩
abbrev main_c_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_16 : Ref sig .tc := ⟨.hbm, 117, rfl⟩
abbrev main_v81 : Ref sig .tc := ⟨.hbm, 118, rfl⟩
abbrev main_v82 : Ref sig .tc := ⟨.hbm, 119, rfl⟩
abbrev main_c_17 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_18 : Ref sig .tc := ⟨.hbm, 130, rfl⟩
abbrev main_v92 : Ref sig .tc := ⟨.hbm, 131, rfl⟩
abbrev main_v93 : Ref sig .tc := ⟨.hbm, 132, rfl⟩
abbrev main_cst_19 : Ref sig .tc := ⟨.hbm, 133, rfl⟩
abbrev main_v94 : Ref sig .tc := ⟨.hbm, 134, rfl⟩
abbrev main_v95 : Ref sig .tc := ⟨.hbm, 135, rfl⟩
abbrev main_cst_20 : Ref sig .tc := ⟨.hbm, 136, rfl⟩
abbrev main_call6_v0 : Ref sig .tc := ⟨.hbm, 137, rfl⟩
abbrev main_call6_v1 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩

abbrev nD : Nat := 1
abbrev τ : Topo := Topo.v7x

variable {F : FTy → Type} [FloatOps F]
-- ==== Proof.Spec.lean ====
/- The calibration as a function of the logits and the table, pixel by pixel, on the extended reals: what both programs
   are shown to compute. -/
module

public import Idealize.ShloMosaic.PureOps.Ideal.Laws
public import Idealize.ShloMosaic.Lib.Pointwise.Index

@[expose] public section

noncomputable section

namespace Cert.Calib

open Idealize.ShloMosaic

/-! ### Numbers as coordinates -/

/-- A number within an axis, as the axis's coordinate. -/
theorem ofNat_val {m n : ℕ} [NeZero m] (h : n < m) : (Fin.ofNat m n).val = n := Nat.mod_eq_of_lt h

/-- A coordinate's number gives the coordinate back. -/
theorem ofNat_eq {m : ℕ} [NeZero m] (k : Fin m) : Fin.ofNat m k.val = k := Fin.ext (ofNat_val k.isLt)

/-! ### One pixel's class scores -/

/-- The largest score. -/
def top (x : Fin 19 → EReal) : EReal := Finset.univ.sup x

/-- No score is above the largest. -/
theorem le_top (x : Fin 19 → EReal) (k : Fin 19) : x k ≤ top x := Finset.le_sup (Finset.mem_univ k)

/-- Some class has the largest score. -/
theorem exists_top (x : Fin 19 → EReal) : ∃ k, x k = top x := by
  obtain ⟨k, _, h⟩ := Finset.exists_mem_eq_sup Finset.univ Finset.univ_nonempty x
  exact ⟨k, h.symm⟩

/-- The first class with the largest score: the pixel's label. -/
def first (x : Fin 19 → EReal) : Fin 19 :=
  (Finset.univ.filter fun k => x k = top x).min' (by
    obtain ⟨k, h⟩ := exists_top x
    exact ⟨k, Finset.mem_filter.mpr ⟨Finset.mem_univ k, h⟩⟩)

/-- The label has the largest score. -/
theorem first_top (x : Fin 19 → EReal) : x (first x) = top x :=
  (Finset.mem_filter.mp (Finset.min'_mem (Finset.univ.filter fun k => x k = top x) _)).2

/-- No class with the largest score comes before the label. -/
theorem first_le (x : Fin 19 → EReal) (k : Fin 19) (h : x k = top x) : first x ≤ k :=
  Finset.min'_le _ _ (Finset.mem_filter.mpr ⟨Finset.mem_univ k, h⟩)

/-- The label is the only class with the largest score that no smaller class has. -/
theorem first_eq (x : Fin 19 → EReal) (y : Fin 19) (h : x y = top x) (h' : ∀ k, k < y → x k ≠ top x) : first x = y :=
  le_antisymm (first_le x y h) (not_lt.mp fun hl => h' _ hl (first_top x))

/-- The sum of the exponentials of the scores' distances from the largest. -/
def total (x : Fin 19 → EReal) : EReal := ∑ k, Ideal.exp (x k - top x)

/-- The probability of a class. -/
def prob (x : Fin 19 → EReal) (k : Fin 19) : EReal := Ideal.exp (x k - top x) * Ideal.div 1 (total x)

/-- The bin of a probability among 15. -/
def bin (p : EReal) : ℕ := (min (Ideal.fptosi 32 (p * 15)).toInt 14).toNat

/-- A bin is one of fifteen. -/
theorem bin_le (p : EReal) : bin p ≤ 14 := by unfold bin; omega

/-! ### The neighbours of a pixel, in an image with a border of one pixel around it -/

/-- One inside the image, zero on the border. -/
def inside (r l : ℕ) : ℕ := if 1 ≤ r ∧ r ≤ 512 ∧ 1 ≤ l ∧ l ≤ 512 then 1 else 0

/-- One where the label is `c`, zero elsewhere and on the border. -/
def labelled (Y : ℕ → ℕ → Fin 19) (c : Fin 19) (r l : ℕ) : ℕ :=
  if 1 ≤ r ∧ r ≤ 512 ∧ 1 ≤ l ∧ l ≤ 512 then (if Y (r - 1) (l - 1) = c then 1 else 0) else 0

/-- The sum over the eight pixels around pixel `(i, j)`, which lies at `(i + 1, j + 1)` with the border. -/
def around (f : ℕ → ℕ → ℕ) (i j : ℕ) : ℕ :=
  f i j + f i (j + 1) + f i (j + 2) + f (i + 1) j + f (i + 1) (j + 2) + f (i + 2) j + f (i + 2) (j + 1) + f (i + 2) (j + 2)

/-- The indicator of the image is at most one. -/
theorem inside_le (r l : ℕ) : inside r l ≤ 1 := by unfold inside; split <;> omega

/-- A labelled pixel lies inside the image. -/
theorem labelled_le (Y : ℕ → ℕ → Fin 19) (c : Fin 19) (r l : ℕ) : labelled Y c r l ≤ inside r l := by
  unfold labelled inside; split
  · split <;> omega
  · omega

/-- Larger terms have a larger sum. -/
theorem around_mono {f g : ℕ → ℕ → ℕ} (h : ∀ r l, f r l ≤ g r l) (i j : ℕ) : around f i j ≤ around g i j := by
  unfold around
  have := h i j; have := h i (j + 1); have := h i (j + 2); have := h (i + 1) j; have := h (i + 1) (j + 2)
  have := h (i + 2) j; have := h (i + 2) (j + 1); have := h (i + 2) (j + 2)
  omega

/-- Eight terms of at most one sum to at most eight. -/
theorem around_le {f : ℕ → ℕ → ℕ} (h : ∀ r l, f r l ≤ 1) (i j : ℕ) : around f i j ≤ 8 :=
  (around_mono (g := fun _ _ => 1) h i j).trans (by simp [around])

/-- No more neighbours have a label than lie inside the image. -/
theorem around_labelled_le (Y : ℕ → ℕ → Fin 19) (c : Fin 19) (i j : ℕ) : around (labelled Y c) i j ≤ around inside i j :=
  around_mono (labelled_le Y c) i j

/-- A pixel has at most eight neighbours. -/
theorem around_inside_le (i j : ℕ) : around inside i j ≤ 8 := around_le inside_le i j

/-- How many neighbours agree with the pixel on being labelled `c`. -/
def agree (Y : ℕ → ℕ → Fin 19) (c : Fin 19) (i j : ℕ) : ℕ :=
  if Y i j = c then around (labelled Y c) i j else around inside i j - around (labelled Y c) i j

/-- At most eight neighbours agree. -/
theorem agree_le (Y : ℕ → ℕ → Fin 19) (c : Fin 19) (i j : ℕ) : agree Y c i j ≤ 8 := by
  have := around_labelled_le Y c i j
  have := around_inside_le i j
  unfold agree; split <;> omega

/-! ### The whole result -/

/-- The scores of one pixel; outside the image those of an image pixel, which nothing reads. -/
def scores (X : FVec Ideal ⟨4, ![4, 19, 512, 512]⟩ .f32) (b : Fin 4) (i j : ℕ) (k : Fin 19) : EReal :=
  X (ix4 b k (Fin.ofNat 512 i) (Fin.ofNat 512 j))

/-- The label of every pixel of an image. -/
def label (X : FVec Ideal ⟨4, ![4, 19, 512, 512]⟩ .f32) (b : Fin 4) (i j : ℕ) : Fin 19 := first (scores X b i j)

/-- The table's entry for a class at a pixel. -/
def entry (X : FVec Ideal ⟨4, ![4, 19, 512, 512]⟩ .f32) (T : FVec Ideal ⟨3, ![19, 9, 15]⟩ .f32) (b : Fin 4) (c : Fin 19)
    (i j : ℕ) : EReal :=
  T (ix3 c (Fin.ofNat 9 (agree (label X b) c i j)) (Fin.ofNat 15 (bin (prob (scores X b i j) c))))

/-- A sum of entries, a zero sum replaced by one. -/
def nonzero (s : EReal) : EReal := if s = 0 then 1 else s

/-- The result: each class's entry over the sum of the pixel's entries. -/
def result (X : FVec Ideal ⟨4, ![4, 19, 512, 512]⟩ .f32) (T : FVec Ideal ⟨3, ![19, 9, 15]⟩ .f32) :
    FVec Ideal ⟨4, ![4, 19, 512, 512]⟩ .f32 := fun y =>
  Ideal.div (entry X T (y 0) (y 1) (y 2).val (y 3).val) (nonzero (∑ c, entry X T (y 0) c (y 2).val (y 3).val))

end Cert.Calib

end
-- ==== Proof.Model.lean ====
/- What one grid point of the kernel computes, as functions of the blocks it loads: the running maximum over the
   classes, the labels, the sum of exponentials, the packed neighbour counts, the looked-up value of a class and the
   rescaled output. Every function is the kernel's own chain of array operations with the class left as a parameter. -/
module

public import proofs.«01_k».proof.Proof.Gen.KernelIdeal.Value

@[expose] public section

set_option maxRecDepth 16384

noncomputable section

namespace Cert.KernelIdeal.Model

open Idealize.ShloMosaic Idealize.SL.Sem Cert.KernelIdeal Cert.KernelIdeal.Gen

variable {F : FTy → Type} [FloatOps F]

/-- A class plane lies within the block of all classes. -/
theorem inb4 (c : Fin 19) : ∀ a, (![0, c.val, 0, 0] : Fin 4 → ℕ) a + S1x1x128x512.size a ≤ S1x19x128x512.size a := by
  revert c; decide

/-- A class row lies within the boundary rows of all classes. -/
theorem inb5 (c : Fin 19) : ∀ a, (![0, c.val, 0, 0, 0] : Fin 5 → ℕ) a + S1x1x1x1x512.size a ≤ S1x19x1x1x512.size a := by
  revert c; decide

/-- A class's two table rows lie within the table. -/
theorem inb3 (c : Fin 19) : ∀ a, (![c.val, 0, 0] : Fin 3 → ℕ) a + S1x2x128.size a ≤ S19x2x128.size a := by
  revert c; decide

/-- The rectangle of class `c` in the block of all classes. -/
abbrev plane (c : Fin 19) : Rect S1x19x128x512 := Rect.unit ![0, c.val, 0, 0] S1x1x128x512.size (inb4 c)

/-- The plane of class `c`, loaded from a staged block. -/
abbrev ldBlock (a : Memref sig .tc .vmem S1x19x128x512 .f32) (ha : a.IsWhole) (x : Vec F S1x19x128x512 .f32)
    (c : Fin 19) : Vec F S1x1x128x512 .f32 :=
  View.readAt (Elt F) a.view (plane c).toLoadRect (ha.unread x)

/-- The boundary row of class `c`, loaded from staged boundary rows. -/
abbrev ldRow (a : Memref sig .tc .vmem S1x19x1x1x512 .f32) (ha : a.IsWhole) (x : Vec F S1x19x1x1x512 .f32)
    (c : Fin 19) : Vec F S1x1x1x1x512 .f32 :=
  View.readAt (Elt F) a.view (Rect.unit (s := S1x19x1x1x512) ![0, c.val, 0, 0, 0] S1x1x1x1x512.size (inb5 c)).toLoadRect (ha.unread x)

/-- The two table rows of class `c`, loaded from the staged table. -/
abbrev ldTable (a : Memref sig .tc .vmem S19x2x128 .f32) (ha : a.IsWhole) (x : Vec F S19x2x128 .f32)
    (c : Fin 19) : Vec F S1x2x128 .f32 :=
  View.readAt (Elt F) a.view (Rect.unit (s := S19x2x128) ![c.val, 0, 0] S1x2x128.size (inb3 c)).toLoadRect (ha.unread x)

/-- A loaded plane as a matrix. -/
abbrev mat (x : Vec F S1x1x128x512 .f32) : FVec F S128x512 .f32 := shapeCast S128x512 x shapeCasts_S1x1x128x512_S128x512

/-- A loaded boundary row as a matrix of one row. -/
abbrev rowMat (x : Vec F S1x1x1x1x512 .f32) : FVec F S1x512 .f32 := shapeCast S1x512 x shapeCasts_S1x1x1x1x512_S1x512

/-- A matrix as a plane to store. -/
abbrev unmat (x : FVec F S128x512 .f32) : FVec F S1x1x128x512 .f32 := shapeCast S1x1x128x512 x shapeCasts_S128x512_S1x1x128x512

/-- The maximum of classes `0 … n`. -/
def maxUpto {s : Shape} (X : Fin 19 → FVec F s .f32) : ℕ → FVec F s .f32
  | 0 => X 0
  | n + 1 => maximumf (maxUpto X n) (X (Fin.ofNat 19 (n + 1)))

/-- The labels after the top `n` classes, from class 18 down: the class where it attains the maximum `m`, else the
    label so far. -/
def labels {s : Shape} (X : Fin 19 → FVec F s .f32) (m : FVec F s .f32) : ℕ → IVec s 32
  | 0 => broadcast s 0#32
  | n + 1 => select (cmpf .oeq (X (Fin.ofNat 19 (18 - n))) m) (broadcast s (BitVec.ofNat 32 (18 - n))) (labels X m n)

/-- The exponential of a class's distance from the maximum. -/
abbrev expo (x m : FVec F S128x512 .f32) : FVec F S128x512 .f32 := exp (subf x m)

/-- The sum of exponentials of the top `n` classes, from class 18 down. -/
def sumExp (X : Fin 19 → FVec F S128x512 .f32) (m : FVec F S128x512 .f32) : ℕ → FVec F S128x512 .f32
  | 0 => broadcast S128x512 (Scalar.ofBits .f32 0x00000000#32)
  | n + 1 => addf (sumExp X m n) (expo (X (Fin.ofNat 19 (18 - n))) m)

/-- One over a matrix. -/
abbrev recip (s : FVec F S128x512 .f32) : FVec F S128x512 .f32 :=
  divf (broadcast S128x512 (Scalar.ofBits .f32 0x3F800000#32)) s

/-- The labels of the 128 rows with the row above and the row below, `-1` outside the image; `h` is the block row. -/
abbrev extended (h : BitVec 32) (yt : IVec S1x512 32) (yh : IVec S128x512 32) (yb : IVec S1x512 32) : IVec S130x512 32 :=
  concatenate S130x512 0
    [⟨S1x512, Scalar.select (Scalar.cmpi .sgt h 0#32) yt (broadcast S1x512 4294967295#32)⟩, ⟨S128x512, yh⟩,
     ⟨S1x512, Scalar.select (Scalar.cmpi .slt h 3#32) yb (broadcast S1x512 4294967295#32)⟩]
    concatenates_S1x512_S128x512_S1x512_S130x512_d0

/-- The packed indicator of region `r`: a one in the label's field where the label's region is `r`, else zero. -/
abbrev bits (y : IVec S130x512 32) (r : BitVec 32) : IVec S130x512 32 :=
  select (cmpi .eq (shrsi y (broadcast S130x512 3#32)) (broadcast S130x512 r))
    (shli (broadcast S130x512 1#32) (shli (andi y (broadcast S130x512 7#32)) (broadcast S130x512 2#32)))
    (broadcast S130x512 0#32)

/-- A matrix plus itself moved one column left and one column right, zeros coming in. -/
abbrev rowSums (b : IVec S130x512 32) : IVec S130x512 32 :=
  addi (addi b
    (concatenate S130x512 1 [⟨S130x511, extractStridedSlice S130x511 ![0, 1] b slices_S130x512_o0_1_S130x511⟩,
      ⟨S130x1, broadcast S130x1 0#32⟩] concatenates_S130x511_S130x1_S130x512_d1))
    (concatenate S130x512 1 [⟨S130x1, broadcast S130x1 0#32⟩,
      ⟨S130x511, extractStridedSlice S130x511 ![0, 0] b slices_S130x512_o0_0_S130x511⟩] concatenates_S130x1_S130x511_S130x512_d1)

/-- Three consecutive rows of row sums, less the centre: the ring sum of a packed indicator. -/
abbrev ring (b : IVec S130x512 32) : IVec S128x512 32 :=
  subi (addi (addi (extractStridedSlice S128x512 ![0, 0] (rowSums b) slices_S130x512_o0_0_S128x512)
      (extractStridedSlice S128x512 ![1, 0] (rowSums b) slices_S130x512_o1_0_S128x512))
      (extractStridedSlice S128x512 ![2, 0] (rowSums b) slices_S130x512_o2_0_S128x512))
    (extractStridedSlice S128x512 ![1, 0] b slices_S130x512_o1_0_S128x512)

/-- The word of packed counts of region `r`. -/
def word (y : IVec S130x512 32) (r : BitVec 32) : IVec S128x512 32 := ring (bits y r)

/-- One, plus one where the coordinate is above zero, plus one where it is below 511. -/
abbrev span (x : IVec S128x512 32) : IVec S128x512 32 :=
  addi (addi (broadcast S128x512 1#32) (extui 32 (cmpi .sgt x (broadcast S128x512 0#32)) natLt_1_32))
    (extui 32 (cmpi .slt x (broadcast S128x512 511#32)) natLt_1_32)

/-- How many neighbours a pixel has inside the image; `h` is the block row. -/
def neighbours (h : BitVec 32) : IVec S128x512 32 :=
  subi (muli (span (addi (broadcast S128x512 (Scalar.muli h 128#32)) (iota .tc S128x512 32 [0] iota_S128x512_d0_w32)))
      (span (iota .tc S128x512 32 [1] iota_S128x512_d1_w32)))
    (broadcast S128x512 1#32)

/-- The count field of class `c`. -/
abbrev field (w : IVec S128x512 32) (c : ℕ) : IVec S128x512 32 :=
  andi (shrsi w (broadcast S128x512 (BitVec.ofNat 32 (c % 8 * 4)))) (broadcast S128x512 15#32)

/-- The bin of a class's probability. -/
abbrev binOf (e inv : FVec F S128x512 .f32) : IVec S128x512 32 :=
  minsi (fptosi 32 (mulf (mulf e inv) (broadcast S128x512 (Scalar.ofBits .f32 0x41700000#32)))) (broadcast S128x512 14#32)

/-- The position of a class's entry in its table row: the count of matching neighbours times 15, plus the bin. -/
def combine (e inv : FVec F S128x512 .f32) (w yh ones : IVec S128x512 32) (c : ℕ) : IVec S128x512 32 :=
  addi (muli (select (cmpi .eq yh (broadcast S128x512 (BitVec.ofNat 32 c))) (field w c) (subi ones (field w c)))
    (broadcast S128x512 15#32)) (binOf e inv)

/-- A position below zero counted from the end of 128 lanes, as an index of the lane lookup. -/
abbrev wrap (i : IVec S128x128 32) : IVec S128x128 32 :=
  shapeCast S128x128 (shapeCast S128x128x1
    (select (cmpi .slt i (broadcast S128x128 0#32)) (addi i (broadcast S128x128 128#32)) i)
    shapeCasts_S128x128_S128x128x1) shapeCasts_S128x128x1_S128x128

/-- One row of a class's table on every row of 128 lanes. -/
abbrev spreadA (t : Vec F S1x2x128 .f32) : FVec F S128x128 .f32 :=
  broadcastTo S128x128 (shapeCast S1x128 (extractStridedSlice S1x128 ![0, 0]
    (shapeCast S2x128 t shapeCasts_S1x2x128_S2x128) slices_S2x128_o0_0_S1x128) shapeCasts_S1x128_S1x128) broadcasts_S1x128_S128x128

/-- The other row of a class's table on every row of 128 lanes. -/
abbrev spreadB (t : Vec F S1x2x128 .f32) : FVec F S128x128 .f32 :=
  broadcastTo S128x128 (shapeCast S1x128 (extractStridedSlice S1x128 ![1, 0]
    (shapeCast S2x128 t shapeCasts_S1x2x128_S2x128) slices_S2x128_o1_0_S1x128) shapeCasts_S1x128_S1x128) broadcasts_S1x128_S128x128

/-- The lookup of 128 columns of positions in a class's two table rows. -/
def look (t : Vec F S1x2x128 .f32) (i : IVec S128x128 32) : FVec F S128x128 .f32 :=
  select (cmpi .slt i (broadcast S128x128 128#32))
    (dynamicGather 1 (spreadA t) (wrap (minsi i (broadcast S128x128 127#32))))
    (dynamicGather 1 (spreadB t) (wrap (maxsi (subi i (broadcast S128x128 128#32)) (broadcast S128x128 0#32))))

/-- The lookup of a whole matrix of positions, 128 columns at a time. -/
def lookAll (t : Vec F S1x2x128 .f32) (i : IVec S128x512 32) : FVec F S128x512 .f32 :=
  concatenate S128x512 1
    [⟨S128x128, look t (extractStridedSlice S128x128 ![0, 0] i slices_S128x512_o0_0_S128x128)⟩,
     ⟨S128x128, look t (extractStridedSlice S128x128 ![0, 128] i slices_S128x512_o0_128_S128x128)⟩,
     ⟨S128x128, look t (extractStridedSlice S128x128 ![0, 256] i slices_S128x512_o0_256_S128x128)⟩,
     ⟨S128x128, look t (extractStridedSlice S128x128 ![0, 384] i slices_S128x512_o0_384_S128x128)⟩]
    concatenates_S128x128_S128x128_S128x128_S128x128_S128x512_d1

/-- The sum of the first `n` values, from zero. -/
def sumVals (v : Fin 19 → FVec F S128x512 .f32) : ℕ → FVec F S128x512 .f32
  | 0 => broadcast S128x512 (Scalar.ofBits .f32 0x00000000#32)
  | n + 1 => addf (sumVals v n) (v (Fin.ofNat 19 n))

/-- One over the sum of the values, a zero sum replaced by one. -/
abbrev scale (z : FVec F S128x512 .f32) : FVec F S128x512 .f32 :=
  recip (select (cmpf .oeq z (broadcast S128x512 (Scalar.ofBits .f32 0x00000000#32)))
    (broadcast S128x512 (Scalar.ofBits .f32 0x3F800000#32)) z)

end Cert.KernelIdeal.Model

end
-- ==== Proof.Pieces.lean ====
/- The kernel's run spells its values as it computes them; here each is identified with the model's function of the
   loaded blocks. -/
module

public import proofs.«01_k».proof.Proof.Model

@[expose] public section

set_option maxRecDepth 16384

noncomputable section

namespace Cert.KernelIdeal.Model

open Idealize.ShloMosaic Idealize.SL.Sem Cert.KernelIdeal Cert.KernelIdeal.Gen

variable {F : FTy → Type} [FloatOps F]
variable (c : Dev nD) (i : grid0.Coords) (arg2 : Memref sig .tc .vmem S19x2x128 .f32) (harg2 : arg2.IsWhole)
  (arg3 : Memref sig .tc .vmem S1x19x128x512 .f32) (harg3 : arg3.IsWhole)
  (arg4 : Memref sig .tc .vmem S1x19x1x1x512 .f32) (harg4 : arg4.IsWhole)
  (arg5 : Memref sig .tc .vmem S1x19x1x1x512 .f32) (harg5 : arg5.IsWhole)
  (arg6 : Memref sig .tc .vmem S1x19x128x512 .f32) (harg6 : arg6.IsWhole)
  (x0 : Vec F S19x2x128 .f32) (x1 : Vec F S1x19x128x512 .f32) (x2 x3 : Vec F S1x19x1x1x512 .f32)

open kernelRun0_A

/-- The maximum over the classes of the block. -/
theorem max_eq : sl.r_21 c arg3 harg3 x1 = maxUpto (fun k => mat (ldBlock arg3 harg3 x1 k)) 18 := rfl

/-- The maximum over the classes of the row above. -/
theorem maxTop_eq : sl.r_22 c arg4 harg4 x2 = maxUpto (fun k => rowMat (ldRow arg4 harg4 x2 k)) 18 := rfl

/-- The maximum over the classes of the row below. -/
theorem maxBot_eq : sl.r_23 c arg5 harg5 x3 = maxUpto (fun k => rowMat (ldRow arg5 harg5 x3 k)) 18 := rfl

/-- The labels of the block. -/
theorem labels_eq : sl.r_84 c arg3 harg3 x1
    = labels (fun k => mat (ldBlock arg3 harg3 x1 k)) (sl.r_21 c arg3 harg3 x1) 19 := rfl

/-- The labels of the row above. -/
theorem labelsTop_eq : sl.r_86 c arg4 harg4 x2
    = labels (fun k => rowMat (ldRow arg4 harg4 x2 k)) (sl.r_22 c arg4 harg4 x2) 19 := rfl

/-- One over the sum of exponentials. -/
theorem inv_eq : sl.r_88 c arg3 harg3 x1
    = recip (sumExp (fun k => mat (ldBlock arg3 harg3 x1 k)) (sl.r_21 c arg3 harg3 x1) 19) := rfl

/-- The labels of the row below. -/
abbrev below : IVec S1x512 32 := labels (fun k => rowMat (ldRow arg5 harg5 x3 k)) (sl.r_23 c arg5 harg5 x3) 19

/-- The labels of the block with its two neighbouring rows. -/
abbrev ext : IVec S130x512 32 :=
  extended (BitVec.ofNat 32 (i 1).val) (sl.r_86 c arg4 harg4 x2) (sl.r_84 c arg3 harg3 x1) (below c arg5 harg5 x3)

/-- The three words of packed counts. -/
theorem word0_eq : sl.r_91 c i arg3 harg3 arg4 harg4 arg5 harg5 x1 x2 x3
    = word (ext c i arg3 harg3 arg4 harg4 arg5 harg5 x1 x2 x3) 0#32 := rfl

/-- A written piece: the plane of class `k`, holding `w`. -/
abbrev piece (k : Fin 19) (w : FVec F S1x1x128x512 .f32) : View.Piece (Elt F) S1x19x128x512 .f32 := ⟨plane k, w⟩

/-- The second word of packed counts. -/
theorem word1_eq : sl.v622 c i arg3 harg3 arg4 harg4 arg5 harg5 x1 x2 x3
    = word (ext c i arg3 harg3 arg4 harg4 arg5 harg5 x1 x2 x3) 1#32 := rfl

/-- The third word of packed counts. -/
theorem word2_eq : sl.v639 c i arg3 harg3 arg4 harg4 arg5 harg5 x1 x2 x3
    = word (ext c i arg3 harg3 arg4 harg4 arg5 harg5 x1 x2 x3) 2#32 := rfl

/-- The number of neighbours inside the image. -/
theorem neighbours_eq : sl.v665 i = neighbours (BitVec.ofNat 32 (i 1).val) := rfl

/-- The exponentials, one piece per class. -/
theorem exps_eq : sl.H4_19 c arg3 harg3 x1 = (List.finRange 19).map fun k =>
    piece k (unmat (expo (mat (ldBlock arg3 harg3 x1 k)) (sl.r_21 c arg3 harg3 x1))) := rfl

/-- The word that holds class `k`'s count. -/
def wordOf (k : Fin 19) : IVec S128x512 32 :=
  word (ext c i arg3 harg3 arg4 harg4 arg5 harg5 x1 x2 x3) (BitVec.ofNat 32 (k.val / 8))

/-- The value of class `k`, from the exponentials `e` read back. -/
abbrev valOf (k : Fin 19) (e : Vec F S1x1x128x512 .f32) : FVec F S128x512 .f32 :=
  lookAll (ldTable arg2 harg2 x0 k) (combine (mat e) (sl.r_88 c arg3 harg3 x1)
    (wordOf c i arg3 harg3 arg4 harg4 arg5 harg5 x1 x2 x3 k) (sl.r_84 c arg3 harg3 x1) (neighbours (BitVec.ofNat 32 (i 1).val)) k.val)

/-- The pieces written once the first `n` classes have their values: the newest first, over the exponentials. -/
def hist : ℕ → List (View.Piece (Elt F) S1x19x128x512 .f32)
  | 0 => sl.H4_19 c arg3 harg3 x1
  | n + 1 => piece (Fin.ofNat 19 n) (unmat (valOf c i arg2 harg2 arg3 harg3 arg4 harg4 arg5 harg5 x0 x1 x2 x3 (Fin.ofNat 19 n)
      (arg6.view.readCov (hist n) (plane (Fin.ofNat 19 n)).toLoadRect))) :: hist n

/-- The pieces with every class's value written, as the run spells them. -/
theorem hist_eq : sl.H4_38 c i arg2 harg2 arg3 harg3 arg4 harg4 arg5 harg5 arg6 x0 x1 x2 x3 = hist c i arg2 harg2 arg3 harg3 arg4 harg4 arg5 harg5 arg6 x0 x1 x2 x3 19 := rfl

/-- The value of class `k` in its place in the run. -/
abbrev valAt (k : Fin 19) : FVec F S128x512 .f32 :=
  valOf c i arg2 harg2 arg3 harg3 arg4 harg4 arg5 harg5 x0 x1 x2 x3 k (arg6.view.readCov (hist c i arg2 harg2 arg3 harg3 arg4 harg4 arg5 harg5 arg6 x0 x1 x2 x3 k.val) (plane k).toLoadRect)

/-- What every value is multiplied by at the end. -/
theorem scale_eq : sl.r_187 c i arg2 harg2 arg3 harg3 arg4 harg4 arg5 harg5 arg6 x0 x1 x2 x3 = scale (sumVals (valAt c i arg2 harg2 arg3 harg3 arg4 harg4 arg5 harg5 arg6 x0 x1 x2 x3) 19) := rfl

/-- The pieces written once the first `n` classes are rescaled: the newest first. -/
def final : ℕ → List (View.Piece (Elt F) S1x19x128x512 .f32)
  | 0 => sl.H4_38 c i arg2 harg2 arg3 harg3 arg4 harg4 arg5 harg5 arg6 x0 x1 x2 x3
  | n + 1 => piece (Fin.ofNat 19 n) (unmat (mulf (mat (arg6.view.readCov (final n) (plane (Fin.ofNat 19 n)).toLoadRect))
      (sl.r_187 c i arg2 harg2 arg3 harg3 arg4 harg4 arg5 harg5 arg6 x0 x1 x2 x3))) :: final n

/-- All pieces of a grid point's run. -/
theorem pieces_eq : (kernelRun0_A c i arg2 harg2 arg3 harg3 arg4 harg4 arg5 harg5 arg6 harg6 x0 x1 x2 x3).1 = final c i arg2 harg2 arg3 harg3 arg4 harg4 arg5 harg5 arg6 x0 x1 x2 x3 19 := rfl

end Cert.KernelIdeal.Model

end
-- ==== Proof.Reads.lean ====
/- What the kernel reads back of what it wrote: each class's plane holds the class's own piece, whatever the pieces of
   the other classes. The block a grid point writes back is then each class's value times the common scale. -/
module

public import proofs.«01_k».proof.Proof.Spec
public import proofs.«01_k».proof.Proof.Pieces
public import Idealize.ShloMosaic.Lib.Pointwise

@[expose] public section

set_option maxRecDepth 16384

noncomputable section

namespace Cert.KernelIdeal.Model

open Idealize.ShloMosaic Idealize.SL.Sem Cert.KernelIdeal Cert.KernelIdeal.Gen Cert.Calib

variable {F : FTy → Type} [FloatOps F]

/-- Planes of different classes are disjoint. -/
theorem plane_disjoint {k k' : Fin 19} (h : k ≠ k') : Disjoint (plane k).set (plane k').set := by
  rw [Finset.disjoint_left]
  intro y hy hy'
  have h1 := (Rect.mem_set_unit.mp hy) 1
  have h2 := (Rect.mem_set_unit.mp hy') 1
  simp at h1 h2
  exact h (Fin.ext (by omega))

/-- A plane read past a piece of another class. -/
theorem readCov_skip_class (v : View sig .tc .vmem S1x19x128x512 .f32) {k k' : Fin 19} (h : k' ≠ k)
    (w : Vec F S1x1x128x512 .f32) (L : List (View.Piece (Elt F) S1x19x128x512 .f32)) :
    v.readCov (piece k' w :: L) (plane k).toLoadRect = v.readCov L (plane k).toLoadRect :=
  View.readCov_cons_of_disjoint v _ L _ (plane_disjoint h)

/-- A plane read at its own newest piece. -/
theorem readCov_hit (v : View sig .tc .vmem S1x19x128x512 .f32) (k : Fin 19)
    (w : Vec F S1x1x128x512 .f32) (L : List (View.Piece (Elt F) S1x19x128x512 .f32)) :
    v.readCov (piece k w :: L) (plane k).toLoadRect = w :=
  View.readCov_cons_toLoadRect v (plane k) w L

/-- Among one piece per class, a plane reads its class's piece. -/
theorem readCov_map (v : View sig .tc .vmem S1x19x128x512 .f32) (f : Fin 19 → Vec F S1x1x128x512 .f32) (k : Fin 19) :
    ∀ l : List (Fin 19), k ∈ l → v.readCov (l.map fun k => piece k (f k)) (plane k).toLoadRect = f k
  | [], h => absurd h List.not_mem_nil
  | a :: l, h => by
    rw [List.map_cons]
    by_cases ha : a = k
    · subst ha; exact readCov_hit v a (f a) _
    · rw [readCov_skip_class v ha]
      exact readCov_map v f k l ((List.mem_cons.mp h).resolve_left fun e => ha e.symm)

/-- Different numbers give different classes. -/
theorem ofNat_ne {n : ℕ} {k : Fin 19} (h : n < 19) (hk : n ≠ k.val) : Fin.ofNat 19 n ≠ k := fun e =>
  hk (by rw [← e, ofNat_val h])

variable (c : Dev nD) (i : grid0.Coords) (arg2 : Memref sig .tc .vmem S19x2x128 .f32) (harg2 : arg2.IsWhole)
  (arg3 : Memref sig .tc .vmem S1x19x128x512 .f32) (harg3 : arg3.IsWhole)
  (arg4 : Memref sig .tc .vmem S1x19x1x1x512 .f32) (harg4 : arg4.IsWhole)
  (arg5 : Memref sig .tc .vmem S1x19x1x1x512 .f32) (harg5 : arg5.IsWhole)
  (arg6 : Memref sig .tc .vmem S1x19x128x512 .f32) (harg6 : arg6.IsWhole)
  (x0 : Vec F S19x2x128 .f32) (x1 : Vec F S1x19x128x512 .f32) (x2 x3 : Vec F S1x19x1x1x512 .f32)

open kernelRun0_A

/-- While class `k` has no value yet, its plane holds its exponentials. -/
theorem hist_unset (k : Fin 19) : ∀ n : ℕ, n ≤ k.val →
    arg6.view.readCov (hist c i arg2 harg2 arg3 harg3 arg4 harg4 arg5 harg5 arg6 x0 x1 x2 x3 n) (plane k).toLoadRect
      = unmat (expo (mat (ldBlock arg3 harg3 x1 k)) (sl.r_21 c arg3 harg3 x1))
  | 0, _ => by
    show arg6.view.readCov (sl.H4_19 c arg3 harg3 x1) _ = _
    rw [exps_eq]
    exact readCov_map _ _ k _ (List.mem_finRange k)
  | n + 1, h => by
    show arg6.view.readCov (piece _ _ :: hist c i arg2 harg2 arg3 harg3 arg4 harg4 arg5 harg5 arg6 x0 x1 x2 x3 n) _ = _
    rw [readCov_skip_class _ (ofNat_ne (by omega) (by omega))]
    exact hist_unset k n (by omega)

/-- The value of class `k`, from the exponentials of the class. -/
theorem valAt_eq (k : Fin 19) : valAt c i arg2 harg2 arg3 harg3 arg4 harg4 arg5 harg5 arg6 x0 x1 x2 x3 k
    = valOf c i arg2 harg2 arg3 harg3 arg4 harg4 arg5 harg5 x0 x1 x2 x3 k
        (unmat (expo (mat (ldBlock arg3 harg3 x1 k)) (sl.r_21 c arg3 harg3 x1))) := by
  unfold valAt
  rw [hist_unset _ _ _ _ _ _ _ _ _ _ _ _ _ _ _ k k.val le_rfl]

/-- Once class `k` has its value, its plane holds it. -/
theorem hist_set (k : Fin 19) : ∀ n : ℕ, k.val < n → n ≤ 19 →
    arg6.view.readCov (hist c i arg2 harg2 arg3 harg3 arg4 harg4 arg5 harg5 arg6 x0 x1 x2 x3 n) (plane k).toLoadRect
      = unmat (valAt c i arg2 harg2 arg3 harg3 arg4 harg4 arg5 harg5 arg6 x0 x1 x2 x3 k)
  | 0, h, _ => absurd h (Nat.not_lt_zero _)
  | n + 1, h, h' => by
    show arg6.view.readCov (piece (Fin.ofNat 19 n) (unmat (valOf c i arg2 harg2 arg3 harg3 arg4 harg4 arg5 harg5 x0 x1 x2 x3 (Fin.ofNat 19 n)
      (arg6.view.readCov (hist c i arg2 harg2 arg3 harg3 arg4 harg4 arg5 harg5 arg6 x0 x1 x2 x3 n) (plane (Fin.ofNat 19 n)).toLoadRect)))
      :: hist c i arg2 harg2 arg3 harg3 arg4 harg4 arg5 harg5 arg6 x0 x1 x2 x3 n) _ = _
    by_cases hk : n = k.val
    · subst hk
      rw [ofNat_eq k]
      exact readCov_hit _ k _ _
    · rw [readCov_skip_class _ (ofNat_ne (by omega) hk)]
      exact hist_set k n (by omega) (by omega)

/-- While class `k` is not rescaled yet, its plane holds its value. -/
theorem final_unset (k : Fin 19) : ∀ n : ℕ, n ≤ k.val →
    arg6.view.readCov (final c i arg2 harg2 arg3 harg3 arg4 harg4 arg5 harg5 arg6 x0 x1 x2 x3 n) (plane k).toLoadRect
      = unmat (valAt c i arg2 harg2 arg3 harg3 arg4 harg4 arg5 harg5 arg6 x0 x1 x2 x3 k)
  | 0, _ => by
    show arg6.view.readCov (sl.H4_38 c i arg2 harg2 arg3 harg3 arg4 harg4 arg5 harg5 arg6 x0 x1 x2 x3) _ = _
    rw [hist_eq]
    exact hist_set _ _ _ _ _ _ _ _ _ _ _ _ _ _ _ k 19 k.isLt le_rfl
  | n + 1, h => by
    show arg6.view.readCov (piece _ _ :: final c i arg2 harg2 arg3 harg3 arg4 harg4 arg5 harg5 arg6 x0 x1 x2 x3 n) _ = _
    rw [readCov_skip_class _ (ofNat_ne (by omega) (by omega))]
    exact final_unset k n (by omega)

/-- Once class `k` is rescaled, its plane reads the value times the common scale. -/
theorem final_set (v : View sig .tc .vmem S1x19x128x512 .f32) (k : Fin 19) : ∀ n : ℕ, k.val < n → n ≤ 19 →
    v.readCov (final c i arg2 harg2 arg3 harg3 arg4 harg4 arg5 harg5 arg6 x0 x1 x2 x3 n) (plane k).toLoadRect
      = unmat (mulf (mat (unmat (valAt c i arg2 harg2 arg3 harg3 arg4 harg4 arg5 harg5 arg6 x0 x1 x2 x3 k)))
          (scale (sumVals (valAt c i arg2 harg2 arg3 harg3 arg4 harg4 arg5 harg5 arg6 x0 x1 x2 x3) 19)))
  | 0, h, _ => absurd h (Nat.not_lt_zero _)
  | n + 1, h, h' => by
    show v.readCov (piece (Fin.ofNat 19 n) (unmat (mulf (mat (arg6.view.readCov (final c i arg2 harg2 arg3 harg3 arg4 harg4 arg5 harg5 arg6 x0 x1 x2 x3 n) (plane (Fin.ofNat 19 n)).toLoadRect))
      (sl.r_187 c i arg2 harg2 arg3 harg3 arg4 harg4 arg5 harg5 arg6 x0 x1 x2 x3)))
      :: final c i arg2 harg2 arg3 harg3 arg4 harg4 arg5 harg5 arg6 x0 x1 x2 x3 n) _ = _
    by_cases hk : n = k.val
    · subst hk
      rw [ofNat_eq k, readCov_hit, final_unset _ _ _ _ _ _ _ _ _ _ _ _ _ _ _ k k.val le_rfl, scale_eq]
    · rw [readCov_skip_class _ (ofNat_ne (by omega) hk)]
      exact final_set v k n (by omega) (by omega)

/-- The output block of a grid point at class `k`, row `r`, column `l`. -/
theorem out_apply (k : Fin 19) (j : S1x1x128x512.Idx) :
    out0_A_4 c i arg2 harg2 arg3 harg3 arg4 harg4 arg5 harg5 arg6 harg6 x0 x1 x2 x3 ((plane k).toLoadRect.idx j)
      = unmat (mulf (mat (unmat (valAt c i arg2 harg2 arg3 harg3 arg4 harg4 arg5 harg5 arg6 x0 x1 x2 x3 k)))
          (scale (sumVals (valAt c i arg2 harg2 arg3 harg3 arg4 harg4 arg5 harg5 arg6 x0 x1 x2 x3) 19))) j := by
  rw [← final_set c i arg2 harg2 arg3 harg3 arg4 harg4 arg5 harg5 arg6 x0 x1 x2 x3 VO0_4 k 19 k.isLt le_rfl]
  unfold out0_A_4
  rw [pieces_eq, View.read_writes_junk_apply_eq_canon, View.readCov_eq_canon']

/-- A plane loaded from a staged block is the block at the class. -/
theorem ldBlock_apply (k : Fin 19) (j : S1x1x128x512.Idx) :
    ldBlock arg3 harg3 x1 k j = x1 ((plane k).toLoadRect.idx j) := by
  unfold ldBlock
  rw [View.readAt_apply]
  exact congrFun (harg3.read_unread _) _

/-- A row loaded from staged boundary rows is the row of the class. -/
theorem ldRow_apply (k : Fin 19) (j : S1x1x1x1x512.Idx) :
    ldRow arg4 harg4 x2 k j
      = x2 ((Rect.unit (s := S1x19x1x1x512) ![0, k.val, 0, 0, 0] S1x1x1x1x512.size (inb5 k)).toLoadRect.idx j) := by
  unfold ldRow
  rw [View.readAt_apply]
  exact congrFun (harg4.read_unread _) _

/-- The two table rows loaded for a class are the rows of the class. -/
theorem ldTable_apply (k : Fin 19) (j : S1x2x128.Idx) :
    ldTable arg2 harg2 x0 k j
      = x0 ((Rect.unit (s := S19x2x128) ![k.val, 0, 0] S1x2x128.size (inb3 k)).toLoadRect.idx j) := by
  unfold ldTable
  rw [View.readAt_apply]
  exact congrFun (harg2.read_unread _) _

/-- The matrix of a class at row `r`, column `l`. -/
theorem mat_ldBlock (k : Fin 19) (r : Fin 128) (l : Fin 512) :
    mat (ldBlock arg3 harg3 x1 k) (ix2 r l) = x1 (ix4 0 k r l) := by
  pointwise
  rw [ldBlock_apply]
  congr 1
  funext a
  fin_cases a <;> apply Fin.ext <;> simp [LoadRect.idx, ix4]

/-- The boundary row of a class at column `l`. -/
theorem rowMat_ldRow (k : Fin 19) (l : Fin 512) :
    rowMat (ldRow arg4 harg4 x2 k) (ix2 0 l) = x2 (ix5 0 k 0 0 l) := by
  pointwise
  rw [ldRow_apply]
  congr 1
  funext a
  fin_cases a <;> apply Fin.ext <;> simp [LoadRect.idx, ix5]

/-- The table rows of a class at row `p`, lane `q`. -/
theorem ldTable_ix3 (k : Fin 19) (p : Fin 2) (q : Fin 128) :
    ldTable arg2 harg2 x0 k (ix3 0 p q) = x0 (ix3 k p q) := by
  rw [ldTable_apply]
  congr 1
  funext a
  fin_cases a <;> apply Fin.ext <;> simp [LoadRect.idx, ix3]

end Cert.KernelIdeal.Model

end
-- ==== Proof.Scores.lean ====
/- The kernel's running maximum, labels and sum of exponentials, read at an index: the largest score, the first class that
   has it, and the sum of the exponentials of the distances from it. -/
module

public import proofs.«01_k».proof.Proof.Spec
public import proofs.«01_k».proof.Proof.Model
public import Idealize.ShloMosaic.Lib.Pointwise

@[expose] public section

set_option maxRecDepth 16384

noncomputable section

namespace Cert.KernelIdeal.Model

open Idealize.ShloMosaic Cert.KernelIdeal Cert.KernelIdeal.Gen Cert.Calib

/-- Equality of extended reals, as the comparison's bit. -/
theorem cmp_oeq {a b : EReal} : Ideal.cmp .oeq a b = 1#1 ↔ a = b := by
  unfold Ideal.cmp
  by_cases h : a = b <;> simp [h]

/-- The running maximum up to class `n` is at most `a` exactly when each of its classes is. -/
theorem maxUpto_le {s : Shape} (X : Fin 19 → FVec Ideal s .f32) (j : s.Idx) (a : EReal) :
    ∀ n : ℕ, n < 19 → ((maxUpto X n j : EReal) ≤ a ↔ ∀ k : Fin 19, k.val ≤ n → (X k j : EReal) ≤ a)
  | 0, _ => by
    show (X 0 j : EReal) ≤ a ↔ _
    refine ⟨fun h k hk => ?_, fun h => h 0 (le_refl _)⟩
    have : k = 0 := Fin.ext (by simpa using hk)
    subst this; exact h
  | n + 1, hn => by
    show max (maxUpto X n j : EReal) (X (Fin.ofNat 19 (n + 1)) j) ≤ a ↔ _
    rw [max_le_iff, maxUpto_le X j a n (by omega)]
    refine ⟨fun h k hk => ?_, fun h => ⟨fun k hk => h k (by omega), h _ (by rw [ofNat_val hn])⟩⟩
    by_cases hk' : k.val ≤ n
    · exact h.1 k hk'
    · have : k = Fin.ofNat 19 (n + 1) := Fin.ext (by rw [ofNat_val hn]; omega)
      rw [this]; exact h.2

/-- The running maximum over all classes is the largest score. -/
theorem maxUpto_apply {s : Shape} (X : Fin 19 → FVec Ideal s .f32) (j : s.Idx) :
    maxUpto X 18 j = top (fun k => X k j) := by
  refine eq_of_forall_ge_iff fun a => ?_
  rw [maxUpto_le X j a 18 (by omega)]
  unfold top
  rw [Finset.sup_le_iff]
  exact ⟨fun h k _ => h k (by omega), fun h k _ => h k (Finset.mem_univ k)⟩

/-- The label after the top `n` classes is class `y` when these hold `y` and `y` is the least that attains `m`. -/
theorem labels_eq_of {s : Shape} (X : Fin 19 → FVec Ideal s .f32) (m : FVec Ideal s .f32) (j : s.Idx) (y : Fin 19)
    (h : X y j = m j) (h' : ∀ k, k < y → X k j ≠ m j) :
    ∀ n : ℕ, n ≤ 19 → 19 - n ≤ y.val → labels X m n j = BitVec.ofNat 32 y.val
  | 0, _, hy => absurd y.isLt (by omega)
  | n + 1, hn, hy => by
    have hv : (Fin.ofNat 19 (18 - n)).val = 18 - n := ofNat_val (by omega)
    show (if Ideal.cmp .oeq (X (Fin.ofNat 19 (18 - n)) j) (m j) = 1#1 then BitVec.ofNat 32 (18 - n) else labels X m n j) = _
    by_cases hk : 18 - n = y.val
    · have e : Fin.ofNat 19 (18 - n) = y := Fin.ext (by omega)
      rw [e, h, if_pos (cmp_oeq.mpr rfl), hk]
    · have hne : X (Fin.ofNat 19 (18 - n)) j ≠ m j := h' _ (Fin.lt_def.mpr (by omega))
      rw [if_neg (fun e => hne (cmp_oeq.mp e))]
      exact labels_eq_of X m j y h h' n (by omega) (by omega)

/-- The label after all classes is the first class with the largest score. -/
theorem labels_apply {s : Shape} (X : Fin 19 → FVec Ideal s .f32) (m : FVec Ideal s .f32) (j : s.Idx)
    (hm : m j = top (fun k => X k j)) : labels X m 19 j = BitVec.ofNat 32 (first (fun k => X k j)).val := by
  refine labels_eq_of X m j _ ((first_top fun k => X k j).trans hm.symm) (fun k hk he => ?_) 19 le_rfl (by omega)
  exact absurd (first_le (fun k => X k j) k (he.trans hm)) (not_le.mpr hk)

/-- The sum of exponentials over the top `n` classes. -/
theorem sumExp_eq (X : Fin 19 → FVec Ideal S128x512 .f32) (m : FVec Ideal S128x512 .f32) (j : S128x512.Idx) :
    ∀ n : ℕ, n ≤ 19 → sumExp X m n j
      = ∑ k ∈ Finset.univ.filter (fun k : Fin 19 => 19 - n ≤ k.val), Ideal.exp (X k j - m j)
  | 0, _ => by
    have : (Finset.univ.filter fun k : Fin 19 => 19 - 0 ≤ k.val) = ∅ :=
      Finset.filter_eq_empty_iff.mpr fun k _ => by omega
    rw [this, Finset.sum_empty]
    exact Ideal.ofBits_zero_f32
  | n + 1, hn => by
    have hv : (Fin.ofNat 19 (18 - n)).val = 18 - n := ofNat_val (by omega)
    have e : (Finset.univ.filter fun k : Fin 19 => 19 - (n + 1) ≤ k.val)
        = insert (Fin.ofNat 19 (18 - n)) (Finset.univ.filter fun k : Fin 19 => 19 - n ≤ k.val) := by
      ext k
      simp only [Finset.mem_filter, Finset.mem_univ, true_and, Finset.mem_insert, Fin.ext_iff]
      omega
    rw [e, Finset.sum_insert (by simp only [Finset.mem_filter, Finset.mem_univ, true_and]; omega), ← sumExp_eq X m j n (by omega)]
    exact add_comm (sumExp X m n j : EReal) _

/-- The sum of exponentials over all classes. -/
theorem sumExp_apply (X : Fin 19 → FVec Ideal S128x512 .f32) (m : FVec Ideal S128x512 .f32) (j : S128x512.Idx)
    (hm : m j = top (fun k => X k j)) : sumExp X m 19 j = total (fun k => X k j) := by
  rw [sumExp_eq X m j 19 le_rfl, Finset.filter_true_of_mem (fun k _ => by omega), hm]
  rfl

/-- The sum of the first `n` values. -/
theorem sumVals_eq (v : Fin 19 → FVec Ideal S128x512 .f32) (j : S128x512.Idx) :
    ∀ n : ℕ, n ≤ 19 → sumVals v n j = ∑ k ∈ Finset.univ.filter (fun k : Fin 19 => k.val < n), (v k j : EReal)
  | 0, _ => by
    have : (Finset.univ.filter fun k : Fin 19 => k.val < 0) = ∅ :=
      Finset.filter_eq_empty_iff.mpr fun k _ => by omega
    rw [this, Finset.sum_empty]
    exact Ideal.ofBits_zero_f32
  | n + 1, hn => by
    have hv : (Fin.ofNat 19 n).val = n := ofNat_val (by omega)
    have e : (Finset.univ.filter fun k : Fin 19 => k.val < n + 1)
        = insert (Fin.ofNat 19 n) (Finset.univ.filter fun k : Fin 19 => k.val < n) := by
      ext k
      simp only [Finset.mem_filter, Finset.mem_univ, true_and, Finset.mem_insert, Fin.ext_iff]
      omega
    rw [e, Finset.sum_insert (by simp only [Finset.mem_filter, Finset.mem_univ, true_and]; omega), ← sumVals_eq v j n (by omega)]
    exact add_comm (sumVals v n j : EReal) _

/-- The sum of all values. -/
theorem sumVals_apply (v : Fin 19 → FVec Ideal S128x512 .f32) (j : S128x512.Idx) :
    sumVals v 19 j = ∑ k, (v k j : EReal) := by
  rw [sumVals_eq v j 19 le_rfl, Finset.filter_true_of_mem (fun k _ => by omega)]

end Cert.KernelIdeal.Model

end
-- ==== Proof.Counts.lean ====
/- The kernel's packed neighbour counts, read at an index. A packed word holds, for each of eight classes, a four-bit
   field with the number of neighbours labelled with the class; each count is at most eight, so no field spills over. -/
module

public import proofs.«01_k».proof.Proof.Spec
public import proofs.«01_k».proof.Proof.Model
public import Idealize.ShloMosaic.Lib.Pointwise

@[expose] public section

set_option maxRecDepth 16384

noncomputable section

namespace Cert.KernelIdeal.Model

open Idealize.ShloMosaic Cert.KernelIdeal Cert.KernelIdeal.Gen Cert.Calib

/-- One where the label is number `c`, zero elsewhere and on the border; `c` need not be a class. -/
def marked (Y : ℕ → ℕ → Fin 19) (c r l : ℕ) : ℕ :=
  if 1 ≤ r ∧ r ≤ 512 ∧ 1 ≤ l ∧ l ≤ 512 then (if (Y (r - 1) (l - 1)).val = c then 1 else 0) else 0

/-- A mark is at most one. -/
theorem marked_le (Y : ℕ → ℕ → Fin 19) (c r l : ℕ) : marked Y c r l ≤ 1 := by
  unfold marked; split
  · split <;> omega
  · omega

/-- The marks of a class are its labels. -/
theorem marked_val (Y : ℕ → ℕ → Fin 19) (c : Fin 19) : marked Y c.val = labelled Y c := by
  funext r l; unfold marked labelled; simp only [Fin.ext_iff]

/-- The fields of region `r` at a pixel: a one in the field of its label. -/
def packed (Y : ℕ → ℕ → Fin 19) (r i j : ℕ) : ℕ := ∑ f : Fin 8, 16 ^ f.val * marked Y (8 * r + f.val) i j

/-- The packed marks vanish on the border. -/
theorem packed_border (Y : ℕ → ℕ → Fin 19) (r i j : ℕ) (h : ¬(1 ≤ i ∧ i ≤ 512 ∧ 1 ≤ j ∧ j ≤ 512)) :
    packed Y r i j = 0 :=
  Finset.sum_eq_zero fun f _ => by rw [marked, if_neg h, mul_zero]

/-- The packed indicator of one label. -/
abbrev bit (y r : BitVec 32) : BitVec 32 :=
  Scalar.select (IntOp.cmpi CmpIPredicate.eq (IntOp.shrsi ArithUnit.vector y 3#32) r)
    (IntOp.shli ArithUnit.vector (1#32) (IntOp.shli ArithUnit.vector (IntOp.andi y 7#32) 2#32)) 0#32

/-- The packed indicator of a class. -/
theorem bit_label : ∀ (y : Fin 19) (r : Fin 3), bit (BitVec.ofNat 32 y.val) (BitVec.ofNat 32 r.val)
    = BitVec.ofNat 32 (∑ f : Fin 8, 16 ^ f.val * if y.val = 8 * r.val + f.val then 1 else 0) := by decide +kernel

/-- The packed indicator of the border's word is zero. -/
theorem bit_border : ∀ r : Fin 3, bit 4294967295#32 (BitVec.ofNat 32 r.val) = 0#32 := by decide +kernel

/-- A row, 128 rows and a row one below the other, read in the first row. -/
theorem stack_first (A C : IVec S1x512 32) (B : IVec S128x512 32)
    (h : Shape.Concatenates [S1x512, S128x512, S1x512] S130x512 0) (p : Fin 130) (q : Fin 512) (hp : p.val < 1) :
    concatenate S130x512 0 [⟨S1x512, A⟩, ⟨S128x512, B⟩, ⟨S1x512, C⟩] h (ix2 p q) = A (ix2 0 q) := by
  pointwise
  refine (dif_pos hp).trans ?_
  exact congrArg (fun a : Fin 1 => A (ix2 a q)) (Fin.ext (by show p.val = 0; omega))

/-- The same in the rows between. -/
theorem stack_mid (A C : IVec S1x512 32) (B : IVec S128x512 32)
    (h : Shape.Concatenates [S1x512, S128x512, S1x512] S130x512 0) (p : Fin 130) (q : Fin 512) (r : Fin 128)
    (hp : p.val = r.val + 1) :
    concatenate S130x512 0 [⟨S1x512, A⟩, ⟨S128x512, B⟩, ⟨S1x512, C⟩] h (ix2 p q) = B (ix2 r q) := by
  have hr := r.isLt
  pointwise
  refine (dif_neg (by omega)).trans ((dif_pos (by omega)).trans ?_)
  exact congrArg (fun a : Fin 128 => B (ix2 a q)) (Fin.ext (by show p.val - 1 = r.val; omega))

/-- The same in the last row. -/
theorem stack_last (A C : IVec S1x512 32) (B : IVec S128x512 32)
    (h : Shape.Concatenates [S1x512, S128x512, S1x512] S130x512 0) (p : Fin 130) (q : Fin 512) (hp : p.val = 129) :
    concatenate S130x512 0 [⟨S1x512, A⟩, ⟨S128x512, B⟩, ⟨S1x512, C⟩] h (ix2 p q) = C (ix2 0 q) := by
  pointwise
  refine (dif_neg (by omega)).trans ((dif_neg (by omega)).trans ?_)
  exact congrArg (fun a : Fin 1 => C (ix2 a q)) (Fin.ext (by show p.val - 1 - 128 = 0; omega))

variable (Y : ℕ → ℕ → Fin 19) (hb : Fin 4) (yt yb : IVec S1x512 32) (yh : IVec S128x512 32)

/-- The test whether a block has a block above it. -/
theorem row_above : ∀ h : Fin 4, Scalar.cmpi .sgt (BitVec.ofNat 32 h.val) 0#32 = BitVec.ofBool (decide (0 < h.val)) := by
  decide

/-- The test whether a block has a block below it. -/
theorem row_below : ∀ h : Fin 4, Scalar.cmpi .slt (BitVec.ofNat 32 h.val) 3#32 = BitVec.ofBool (decide (h.val < 3)) := by
  decide

/-- The extended labels, with the border's rows. -/
theorem extended_apply (hh : ∀ (p : Fin 128) (q : Fin 512), yh (ix2 p q) = BitVec.ofNat 32 (Y (hb.val * 128 + p.val) q.val).val)
    (ht : 0 < hb.val → ∀ q : Fin 512, yt (ix2 0 q) = BitVec.ofNat 32 (Y (hb.val * 128 - 1) q.val).val)
    (hu : hb.val < 3 → ∀ q : Fin 512, yb (ix2 0 q) = BitVec.ofNat 32 (Y (hb.val * 128 + 128) q.val).val)
    (p : Fin 130) (q : Fin 512) :
    extended (BitVec.ofNat 32 hb.val) yt yh yb (ix2 p q)
      = if 1 ≤ hb.val * 128 + p.val ∧ hb.val * 128 + p.val ≤ 512
        then BitVec.ofNat 32 (Y (hb.val * 128 + p.val - 1) q.val).val else 4294967295#32 := by
  have hp := p.isLt
  have hsgt : Scalar.cmpi .sgt (BitVec.ofNat 32 hb.val) 0#32 = BitVec.ofBool (decide (0 < hb.val)) := by
    exact row_above hb
  have hslt : Scalar.cmpi .slt (BitVec.ofNat 32 hb.val) 3#32 = BitVec.ofBool (decide (hb.val < 3)) := by
    exact row_below hb
  have sel : ∀ (d : Prop) [Decidable d] (a b : IVec S1x512 32), Scalar.select (BitVec.ofBool (decide d)) a b = if d then a else b :=
    fun d _ a b => by by_cases h : d <;> simp [Scalar.select, h]
  unfold extended
  rw [hsgt, hslt, sel, sel]
  by_cases h1 : p.val < 1
  · rw [stack_first _ _ _ _ p q h1]
    by_cases h0 : 0 < hb.val
    · rw [if_pos h0, if_pos (by omega), show hb.val * 128 + p.val - 1 = hb.val * 128 - 1 by omega, ht h0]
    · rw [if_neg h0, if_neg (by omega)]; rfl
  · by_cases h2 : p.val < 129
    · rw [stack_mid _ _ _ _ p q ⟨p.val - 1, by omega⟩ (by show p.val = p.val - 1 + 1; omega), hh, if_pos (by omega)]
      rw [show hb.val * 128 + (⟨p.val - 1, by omega⟩ : Fin 128).val = hb.val * 128 + p.val - 1 by show _ + (_ - 1) = _; omega]
    · rw [stack_last _ _ _ _ p q (by omega)]
      by_cases h3 : hb.val < 3
      · rw [if_pos h3, if_pos (by omega), show hb.val * 128 + p.val - 1 = hb.val * 128 + 128 by omega, hu h3]
      · rw [if_neg h3, if_neg (by omega)]; rfl

/-- The packed indicators of a region. -/
theorem bits_apply (r : Fin 3) (y : IVec S130x512 32)
    (hy : ∀ (p : Fin 130) (q : Fin 512), y (ix2 p q) = if 1 ≤ hb.val * 128 + p.val ∧ hb.val * 128 + p.val ≤ 512
        then BitVec.ofNat 32 (Y (hb.val * 128 + p.val - 1) q.val).val else 4294967295#32)
    (p : Fin 130) (q : Fin 512) :
    bits y (BitVec.ofNat 32 r.val) (ix2 p q) = BitVec.ofNat 32 (packed Y r.val (hb.val * 128 + p.val) (q.val + 1)) := by
  pointwise [bits]
  show bit (y (ix2 p q)) _ = _
  have hq := q.isLt
  rw [hy]
  by_cases h : 1 ≤ hb.val * 128 + p.val ∧ hb.val * 128 + p.val ≤ 512
  · rw [if_pos h, bit_label]
    congr 1
    refine Finset.sum_congr rfl fun f _ => ?_
    have hc : 1 ≤ hb.val * 128 + p.val ∧ hb.val * 128 + p.val ≤ 512 ∧ 1 ≤ q.val + 1 ∧ q.val + 1 ≤ 512 :=
      ⟨h.1, h.2, by omega, by omega⟩
    rw [marked, if_pos hc, Nat.add_sub_cancel]
  · rw [if_neg h, packed_border _ _ _ _ (by omega)]
    exact bit_border r

/-- Adding a word and taking it away again. -/
theorem add_sub_word (a c : ℕ) : BitVec.ofNat 32 (a + c) - BitVec.ofNat 32 c = BitVec.ofNat 32 a := by
  rw [BitVec.ofNat_add]
  exact BitVec.add_sub_cancel _ _

/-- 128 rows out of the 130, from row `o` on. -/
theorem rows_apply (o : ℕ) (ho : o ≤ 2) (x : IVec S130x512 32) (h : S130x512.Slices ![o, 0] S128x512) (p : Fin 128) (q : Fin 512) :
    extractStridedSlice S128x512 ![o, 0] x h (ix2 p q) = x (ix2 ⟨o + p.val, by omega⟩ q) := by
  pointwise

/-- A row sum is the sum over three columns. -/
theorem rowSums_apply (g : ℕ → ℕ → ℕ) (b : IVec S130x512 32)
    (hg : ∀ (p : Fin 130) (q : Fin 512), b (ix2 p q) = BitVec.ofNat 32 (g (hb.val * 128 + p.val) (q.val + 1)))
    (hl : ∀ i, g i 0 = 0) (hr : ∀ i, g i 513 = 0) (p : Fin 130) (q : Fin 512) :
    rowSums b (ix2 p q) = BitVec.ofNat 32 (g (hb.val * 128 + p.val) (q.val + 1) + g (hb.val * 128 + p.val) (q.val + 2)
      + g (hb.val * 128 + p.val) q.val) := by
  have hq := q.isLt
  have e1 : ∀ h : 1 + q.val < 512, b (ix2 p ⟨1 + q.val, h⟩) = BitVec.ofNat 32 (g (hb.val * 128 + p.val) (q.val + 2)) := fun h => by
    rw [hg]; congr 2; show 1 + q.val + 1 = _; omega
  have e2 : 0 < q.val → ∀ h : q.val - 1 < 512, b (ix2 p ⟨q.val - 1, h⟩) = BitVec.ofNat 32 (g (hb.val * 128 + p.val) q.val) := fun h0 h => by
    rw [hg]; congr 2; show q.val - 1 + 1 = _; omega
  pointwise [rowSums]
  rw [BitVec.ofNat_add, BitVec.ofNat_add]
  refine congrArg₂ (· + ·) (congrArg₂ (· + ·) (hg p q) ?_) ?_
  · by_cases h : q.val < 511
    · rw [dif_pos h]; exact e1 _
    · rw [dif_neg h, show q.val + 2 = 513 by omega, hr]
  · by_cases h : q.val < 1
    · rw [dif_pos h, show q.val = 0 by omega, hl]
    · rw [dif_neg h]; exact e2 (by omega) _

/-- The ring sum of the packed indicators is the sum over the eight pixels around. -/
theorem ring_apply (g : ℕ → ℕ → ℕ) (b : IVec S130x512 32)
    (hg : ∀ (p : Fin 130) (q : Fin 512), b (ix2 p q) = BitVec.ofNat 32 (g (hb.val * 128 + p.val) (q.val + 1)))
    (hl : ∀ i, g i 0 = 0) (hr : ∀ i, g i 513 = 0) (p : Fin 128) (q : Fin 512) :
    ring b (ix2 p q) = BitVec.ofNat 32 (around g (hb.val * 128 + p.val) q.val) := by
  show extractStridedSlice S128x512 ![0, 0] (rowSums b) _ (ix2 p q) + extractStridedSlice S128x512 ![1, 0] (rowSums b) _ (ix2 p q)
    + extractStridedSlice S128x512 ![2, 0] (rowSums b) _ (ix2 p q) - extractStridedSlice S128x512 ![1, 0] b _ (ix2 p q) = _
  rw [rows_apply 0 (by omega), rows_apply 1 (by omega), rows_apply 2 (by omega), rows_apply 1 (by omega),
    rowSums_apply hb g b hg hl hr, rowSums_apply hb g b hg hl hr, rowSums_apply hb g b hg hl hr, hg]
  simp only [around, ← BitVec.ofNat_add]
  rw [show hb.val * 128 + (1 + p.val) = hb.val * 128 + p.val + 1 by omega,
    show hb.val * 128 + (2 + p.val) = hb.val * 128 + p.val + 2 by omega, show hb.val * 128 + (0 + p.val) = hb.val * 128 + p.val by omega]
  refine Eq.trans ?_ (add_sub_word _ (g (hb.val * 128 + p.val + 1) (q.val + 1)))
  refine congrArg (fun n => BitVec.ofNat 32 n - BitVec.ofNat 32 (g (hb.val * 128 + p.val + 1) (q.val + 1))) ?_
  omega

/-- The eight fields around a pixel are the counts of the labels around it. -/
theorem around_packed (r i j : ℕ) :
    around (packed Y r) i j = ∑ f : Fin 8, 16 ^ f.val * around (marked Y (8 * r + f.val)) i j := by
  simp only [around, packed, ← Finset.sum_add_distrib, ← mul_add]

/-- The word of a region. -/
theorem word_apply (r : Fin 3) (y : IVec S130x512 32)
    (hy : ∀ (p : Fin 130) (q : Fin 512), y (ix2 p q) = if 1 ≤ hb.val * 128 + p.val ∧ hb.val * 128 + p.val ≤ 512
        then BitVec.ofNat 32 (Y (hb.val * 128 + p.val - 1) q.val).val else 4294967295#32)
    (p : Fin 128) (q : Fin 512) :
    word y (BitVec.ofNat 32 r.val) (ix2 p q) = BitVec.ofNat 32
      (∑ f : Fin 8, 16 ^ f.val * around (marked Y (8 * r.val + f.val)) (hb.val * 128 + p.val) q.val) := by
  rw [← around_packed]
  exact ring_apply hb (packed Y r.val) _ (bits_apply Y hb r y hy) (fun i => packed_border _ _ _ _ (by omega))
    (fun i => packed_border _ _ _ _ (by omega)) p q

/-- The low four bits of a word shifted right by at most 28 places, its sign coming in or not. -/
theorem low_bits (w : BitVec 32) (s : ℕ) (hs : s ≤ 28) : (w.sshiftRight s &&& 15#32).toNat = w.toNat / 2 ^ s % 16 := by
  have e : w.sshiftRight s &&& 15#32 = (w >>> s) &&& 15#32 := by
    apply BitVec.eq_of_getLsbD_eq
    intro i hi
    by_cases h4 : i < 4
    · rw [BitVec.getLsbD_and, BitVec.getLsbD_and, BitVec.getLsbD_sshiftRight, BitVec.getLsbD_ushiftRight]
      simp [show s + i < 32 by omega, show ¬ 32 ≤ i by omega]
    · have : (15#32).getLsbD i = false := by
        have : ∀ k : Fin 32, 4 ≤ k.val → (15#32).getLsbD k.val = false := by decide
        exact this ⟨i, hi⟩ (by show 4 ≤ i; omega)
      simp [this]
  rw [e, BitVec.toNat_and, BitVec.toNat_ushiftRight, Nat.shiftRight_eq_div_pow]
  exact Nat.and_two_pow_sub_one_eq_mod _ 4

/-- A field of a word of eight counts. -/
theorem field_of (n : Fin 8 → ℕ) (hn : ∀ f, n f ≤ 8) (f : Fin 8) :
    IntOp.andi (IntOp.shrsi ArithUnit.vector (BitVec.ofNat 32 (∑ f : Fin 8, 16 ^ f.val * n f)) (BitVec.ofNat 32 (f.val * 4))) 15#32
      = BitVec.ofNat 32 (n f) := by
  have hf := f.isLt
  have e : (BitVec.ofNat 32 (f.val * 4)).toNat = f.val * 4 := by
    rw [BitVec.toNat_ofNat]; omega
  apply BitVec.eq_of_toNat_eq
  show (IntOp.shrsi ArithUnit.vector _ _ &&& 15#32).toNat = _
  rw [IntOp.shrsi, if_pos (by rw [e]; omega), BitVec.sshiftRight', e, low_bits _ _ (by omega)]
  have h0 := hn 0; have h1 := hn 1; have h2 := hn 2; have h3 := hn 3
  have h4 := hn 4; have h5 := hn 5; have h6 := hn 6; have h7 := hn 7
  rw [BitVec.toNat_ofNat, BitVec.toNat_ofNat, Fin.sum_univ_eight]
  fin_cases f <;> simp <;> omega

/-- The count of a class at a pixel. -/
theorem field_apply (c : Fin 19) (w : IVec S128x512 32) (p : Fin 128) (q : Fin 512)
    (hw : w (ix2 p q) = BitVec.ofNat 32
      (∑ f : Fin 8, 16 ^ f.val * around (marked Y (8 * (c.val / 8) + f.val)) (hb.val * 128 + p.val) q.val)) :
    field w c.val (ix2 p q) = BitVec.ofNat 32 (around (labelled Y c) (hb.val * 128 + p.val) q.val) := by
  pointwise [field]
  rw [hw]
  have := field_of (fun f => around (marked Y (8 * (c.val / 8) + f.val)) (hb.val * 128 + p.val) q.val)
    (fun f => around_le (marked_le Y _) _ _) ⟨c.val % 8, by omega⟩
  refine this.trans ?_
  rw [show 8 * (c.val / 8) + (⟨c.val % 8, by omega⟩ : Fin 8).val = c.val by show 8 * (c.val / 8) + c.val % 8 = _; omega, marked_val]

/-- One, plus one above zero, plus one below 511. -/
def reach (i : ℕ) : ℕ := 1 + (if 0 < i then 1 else 0) + (if i < 511 then 1 else 0)

/-- The kernel's word for how many of the three places around a coordinate lie inside. -/
theorem span_word : ∀ i : Fin 512, IntOp.addi (IntOp.addi (1#32)
      (BitVec.setWidth 32 (IntOp.cmpi CmpIPredicate.sgt (BitVec.ofNat 32 i.val) 0#32)))
      (BitVec.setWidth 32 (IntOp.cmpi CmpIPredicate.slt (BitVec.ofNat 32 i.val) 511#32)) = BitVec.ofNat 32 (reach i.val) := by
  decide +kernel

/-- The number of neighbours inside the image. -/
theorem around_inside (i j : ℕ) (hi : i < 512) (hj : j < 512) : around inside i j + 1 = reach i * reach j := by
  have e : ∀ a b, inside a b = (if 1 ≤ a ∧ a ≤ 512 then 1 else 0) * (if 1 ≤ b ∧ b ≤ 512 then 1 else 0) := fun a b => by
    unfold inside
    by_cases ha : 1 ≤ a ∧ a ≤ 512 <;> by_cases hb : 1 ≤ b ∧ b ≤ 512 <;> simp [ha, hb] <;> omega
  have r0 : ∀ i, i < 512 → reach i = (if 1 ≤ i ∧ i ≤ 512 then 1 else 0) + 1 + (if 1 ≤ i + 2 ∧ i + 2 ≤ 512 then 1 else 0) := fun i hi => by
    unfold reach
    split_ifs <;> omega
  have m0 : ∀ i, i < 512 → (if 1 ≤ i + 1 ∧ i + 1 ≤ 512 then 1 else 0 : ℕ) = 1 := fun i hi => if_pos (by omega)
  rw [r0 i hi, r0 j hj]
  simp only [around, e, m0 i hi, m0 j hj]
  ring

/-- How many neighbours a pixel has inside the image. -/
theorem neighbours_apply (p : Fin 128) (q : Fin 512) :
    neighbours (BitVec.ofNat 32 hb.val) (ix2 p q) = BitVec.ofNat 32 (around inside (hb.val * 128 + p.val) q.val) := by
  have hp := p.isLt
  have hh := hb.isLt
  pointwise [neighbours]
  rw [show IntOp.addi (Scalar.muli (BitVec.ofNat 32 hb.val) 128#32) (BitVec.ofNat 32 p.val)
      = BitVec.ofNat 32 (⟨hb.val * 128 + p.val, by omega⟩ : Fin 512).val by
    show BitVec.ofNat 32 hb.val * BitVec.ofNat 32 128 + _ = _
    rw [← BitVec.ofNat_mul, ← BitVec.ofNat_add], span_word, span_word]
  show BitVec.ofNat 32 _ * BitVec.ofNat 32 _ - BitVec.ofNat 32 1 = _
  rw [← BitVec.ofNat_mul, ← around_inside _ _ (by omega) q.isLt, add_sub_word]

end Cert.KernelIdeal.Model

end
-- ==== Proof.Lookup.lean ====
/- The kernel's bin of a probability, the position it forms from count and bin, and the lookup of the position in the two
   table rows of a class, read at an index. -/
module

public import proofs.«01_k».proof.Proof.Spec
public import proofs.«01_k».proof.Proof.Model
public import Idealize.ShloMosaic.Lib.Pointwise

@[expose] public section

set_option maxRecDepth 16384

noncomputable section

namespace Cert.KernelIdeal.Model

open Idealize.ShloMosaic Cert.KernelIdeal Cert.KernelIdeal.Gen Cert.Calib

/-- The word of fifteen. -/
theorem fifteen_bits : Ideal.ofBits .f32 0x41700000#32 = 15 := by
  have : ((15728640 : ℝ) : EReal) * (((2 ^ 20)⁻¹ : ℝ) : EReal) = ((15 : ℝ) : EReal) := by
    rw [← EReal.coe_mul]; norm_num
  simp [Ideal.ofBits, Ideal.ieee]
  exact this.trans rfl

/-- A conversion to a word, read signed, is the clamped integer part. -/
theorem fptosi_toInt (x : EReal) : (Ideal.fptosi 32 x).toInt = Ideal.toIntClamped (-2147483648) 2147483647 x := by
  have hb : -2147483648 ≤ Ideal.toIntClamped (-2147483648) 2147483647 x ∧ Ideal.toIntClamped (-2147483648) 2147483647 x ≤ 2147483647 := by
    induction x using EReal.rec with
    | bot => exact ⟨le_rfl, by decide⟩
    | top => exact ⟨by decide, le_rfl⟩
    | coe r => exact ⟨le_max_left _ _, max_le (by decide) (min_le_left _ _)⟩
  show (BitVec.ofInt 32 (Ideal.toIntClamped (-2147483648) 2147483647 x)).toInt = _
  rw [BitVec.toInt_ofInt]
  exact Int.bmod_eq_of_le (by omega) (by omega)

/-- A nonnegative number converts to a nonnegative word. -/
theorem fptosi_nonneg (x : EReal) (h : 0 ≤ x) : 0 ≤ (Ideal.fptosi 32 x).toInt := by
  rw [fptosi_toInt]
  induction x using EReal.rec with
  | bot => exact absurd h (by simp)
  | top => exact (by decide : (0 : ℤ) ≤ 2147483647)
  | coe r =>
    have hr : 0 ≤ r := EReal.coe_nonneg.mp h
    show 0 ≤ max _ (min _ (if 0 ≤ r then ⌊r⌋ else ⌈r⌉))
    rw [if_pos hr]
    exact le_max_of_le_right (le_min (by decide) (Int.floor_nonneg.mpr hr))

/-- The kernel's bin word of a nonnegative probability. -/
theorem bin_word (p : EReal) (h : 0 ≤ p) :
    IntOp.minsi (Ideal.fptosi 32 (p * 15)) 14#32 = BitVec.ofNat 32 (bin p) := by
  have h0 := fptosi_nonneg (p * 15) (mul_nonneg h (by norm_num))
  unfold bin
  generalize Ideal.fptosi 32 (p * 15) = w at h0
  have h14 : (14#32).toInt = 14 := by decide
  unfold IntOp.minsi
  by_cases hl : w.toInt < 14
  · rw [if_pos (by rw [BitVec.slt, h14]; simpa using hl), min_eq_left (by omega)]
    apply BitVec.eq_of_toInt_eq
    rw [BitVec.toInt_ofNat']
    rw [Int.bmod_eq_of_le (by omega) (by omega)]
    omega
  · rw [if_neg (by rw [BitVec.slt, h14]; simpa using hl), min_eq_right (by omega)]
    rfl

/-- The comparison of two class words. -/
theorem class_eq : ∀ y c : Fin 19,
    IntOp.cmpi .eq (BitVec.ofNat 32 y.val) (BitVec.ofNat 32 c.val) = BitVec.ofBool (decide (y = c)) := by decide +kernel

/-- The position of an entry. -/
theorem combine_apply (e inv : FVec Ideal S128x512 .f32) (w yh ones : IVec S128x512 32) (c y : Fin 19) (n o : ℕ)
    (j : S128x512.Idx) (hy : yh j = BitVec.ofNat 32 y.val) (hn : field w c.val j = BitVec.ofNat 32 n)
    (ho : ones j = BitVec.ofNat 32 o) (hno : n ≤ o) (hp : 0 ≤ (e j * inv j : EReal)) :
    combine e inv w yh ones c.val j = BitVec.ofNat 32 ((if y = c then n else o - n) * 15 + bin (e j * inv j)) := by
  show (Scalar.select (IntOp.cmpi .eq (yh j) (BitVec.ofNat 32 c.val)) (field w c.val j) (ones j - field w c.val j)) * BitVec.ofNat 32 15
    + IntOp.minsi (Ideal.fptosi 32 ((e j * inv j : EReal) * Ideal.ofBits .f32 0x41700000#32)) 14#32 = _
  rw [hy, hn, ho, fifteen_bits, bin_word _ hp, BitVec.ofNat_add, BitVec.ofNat_mul]
  congr 2
  have hc : IntOp.cmpi .eq (BitVec.ofNat 32 y.val) (BitVec.ofNat 32 c.val) = BitVec.ofBool (decide (y = c)) := by
    exact class_eq y c
  rw [hc]
  by_cases h : y = c
  · simp [Scalar.select, h]
  · rw [if_neg h]
    have : BitVec.ofNat 32 o = BitVec.ofNat 32 (o - n) + BitVec.ofNat 32 n := by rw [← BitVec.ofNat_add, Nat.sub_add_cancel hno]
    simp only [Scalar.select, h, decide_false, BitVec.ofBool_false]
    rw [if_neg (by decide), this]
    exact BitVec.add_sub_cancel _ _

/-- The lane that a position below 128 reads. -/
theorem lane_low : ∀ k : Fin 128,
    (Scalar.select (IntOp.cmpi CmpIPredicate.slt (IntOp.minsi (BitVec.ofNat 32 k.val) 127#32) 0#32)
      (IntOp.addi (IntOp.minsi (BitVec.ofNat 32 k.val) 127#32) 128#32) (IntOp.minsi (BitVec.ofNat 32 k.val) 127#32)).toNat % 128 = k.val
    ∧ IntOp.cmpi CmpIPredicate.slt (BitVec.ofNat 32 k.val) 128#32 = 1#1 := by decide +kernel

/-- The lane that a position from 128 on reads. -/
theorem lane_high : ∀ k : Fin 7,
    (Scalar.select (IntOp.cmpi CmpIPredicate.slt (IntOp.maxsi (IntOp.subi (BitVec.ofNat 32 (128 + k.val)) 128#32) 0#32) 0#32)
      (IntOp.addi (IntOp.maxsi (IntOp.subi (BitVec.ofNat 32 (128 + k.val)) 128#32) 0#32) 128#32)
      (IntOp.maxsi (IntOp.subi (BitVec.ofNat 32 (128 + k.val)) 128#32) 0#32)).toNat % 128 = k.val
    ∧ IntOp.cmpi CmpIPredicate.slt (BitVec.ofNat 32 (128 + k.val)) 128#32 = 0#1 := by decide +kernel

/-- The lookup of one position. -/
theorem look_apply (t : Vec Ideal S1x2x128 .f32) (i : IVec S128x128 32) (p q : Fin 128) (k : ℕ) (hk : k < 135)
    (hi : i (ix2 p q) = BitVec.ofNat 32 k) :
    look t i (ix2 p q) = t (ix3 0 (Fin.ofNat 2 (k / 128)) (Fin.ofNat 128 k)) := by
  pointwise [look]
  by_cases h : k < 128
  · obtain ⟨h1, h2⟩ := lane_low ⟨k, h⟩
    dsimp only at h1 h2
    rw [← hi] at h1 h2
    refine (if_pos h2).trans ?_
    refine congrArg t (congrArg₂ (ix3 0) (Fin.ext ?_) (Fin.ext ?_))
    · show 0 = k / 128 % 2; omega
    · exact h1.trans (Nat.mod_eq_of_lt h).symm
  · obtain ⟨m, rfl⟩ : ∃ m, k = 128 + m := ⟨k - 128, by omega⟩
    obtain ⟨h1, h2⟩ := lane_high ⟨m, by omega⟩
    dsimp only at h1 h2
    rw [← hi] at h1 h2
    refine (if_neg (by rw [h2]; decide)).trans ?_
    refine congrArg t (congrArg₂ (ix3 0) (Fin.ext ?_) (Fin.ext ?_))
    · show 1 = (128 + m) / 128 % 2; omega
    · exact h1.trans (show m = (128 + m) % 128 by omega)

/-- The lookup of one of 512 columns, in the piece of 128 columns from column `o` on. -/
theorem look_piece (t : Vec Ideal S1x2x128 .f32) (i : IVec S128x512 32) (o : ℕ) (h : S128x512.Slices ![0, o] S128x128)
    (p q : Fin 128) (q' : Fin 512) (hq : q'.val = o + q.val) (k : ℕ) (hk : k < 135) (hi : i (ix2 p q') = BitVec.ofNat 32 k) :
    look t (extractStridedSlice S128x128 ![0, o] i h) (ix2 p q) = t (ix3 0 (Fin.ofNat 2 (k / 128)) (Fin.ofNat 128 k)) := by
  refine look_apply t _ p q k hk ?_
  rw [← hi]
  pointwise
  exact congrArg (fun a : Fin 512 => i (ix2 p a)) (Fin.ext (by show o + q.val = q'.val; omega))

/-- The lookup of any position. -/
theorem lookAll_apply (t : Vec Ideal S1x2x128 .f32) (i : IVec S128x512 32) (p : Fin 128) (q : Fin 512) (k : ℕ) (hk : k < 135)
    (hi : i (ix2 p q) = BitVec.ofNat 32 k) :
    lookAll t i (ix2 p q) = t (ix3 0 (Fin.ofNat 2 (k / 128)) (Fin.ofNat 128 k)) := by
  have hq := q.isLt
  pointwise [lookAll]
  by_cases h1 : q.val < 128
  · exact (dif_pos h1).trans (look_piece t i 0 _ p _ q (by show q.val = 0 + q.val; omega) k hk hi)
  refine (dif_neg h1).trans ?_
  by_cases h2 : q.val - 128 < 128
  · exact (dif_pos h2).trans (look_piece t i 128 _ p _ q (by show q.val = 128 + (q.val - 128); omega) k hk hi)
  refine (dif_neg h2).trans ?_
  by_cases h3 : q.val - 128 - 128 < 128
  · exact (dif_pos h3).trans (look_piece t i 256 _ p _ q (by show q.val = 256 + (q.val - 128 - 128); omega) k hk hi)
  · exact (dif_neg h3).trans (look_piece t i 384 _ p _ q (by show q.val = 384 + (q.val - 128 - 128 - 128); omega) k hk hi)

/-- One over a sum, a zero sum replaced by one. -/
theorem scale_apply (z : FVec Ideal S128x512 .f32) (j : S128x512.Idx) : scale z j = Ideal.div 1 (nonzero (z j)) := by
  idx_vars j
  pointwise [scale, nonzero]

/-- One over a number. -/
theorem recip_apply (z : FVec Ideal S128x512 .f32) (j : S128x512.Idx) : recip z j = Ideal.div 1 (z j) := by
  pointwise [recip]

end Cert.KernelIdeal.Model

end
-- ==== Proof.Block.lean ====
/- What one grid point writes back, in terms of the scores and the table: the calibration of its 128 rows. -/
module

public import proofs.«01_k».proof.Proof.Reads
public import proofs.«01_k».proof.Proof.Scores
public import proofs.«01_k».proof.Proof.Counts
public import proofs.«01_k».proof.Proof.Lookup

@[expose] public section

set_option maxRecDepth 16384

noncomputable section

namespace Cert.Calib

open Idealize.ShloMosaic

/-- An exponential is not negative. -/
theorem exp_nonneg (x : EReal) : 0 ≤ Ideal.exp x := by
  induction x using EReal.rec with
  | bot => exact le_rfl
  | top => exact OrderTop.le_top _
  | coe r => exact EReal.coe_nonneg.mpr (Real.exp_pos r).le

/-- The sum of the exponentials is not negative. -/
theorem total_nonneg (x : Fin 19 → EReal) : 0 ≤ total x := Finset.sum_nonneg fun k _ => exp_nonneg _

/-- A probability is not negative. -/
theorem prob_nonneg (x : Fin 19 → EReal) (k : Fin 19) : 0 ≤ prob x k := by
  refine mul_nonneg (exp_nonneg _) ?_
  unfold Ideal.div
  split
  · rw [if_pos (by norm_num)]; exact OrderTop.le_top _
  · exact mul_nonneg zero_le_one (EReal.inv_nonneg_of_nonneg (total_nonneg x))

/-- A sum with zero replaced by one is not zero. -/
theorem nonzero_ne (s : EReal) : nonzero s ≠ 0 := by
  unfold nonzero; split
  · exact one_ne_zero
  · assumption

/-- Multiplying by one over a nonzero number is dividing by it. -/
theorem mul_div_one (a d : EReal) (h : d ≠ 0) : a * Ideal.div 1 d = Ideal.div a d := by
  rw [Ideal.div, Ideal.div, if_neg h, if_neg h, one_mul]

end Cert.Calib

namespace Cert.KernelIdeal.Model

open Idealize.ShloMosaic Idealize.SL.Sem Cert.KernelIdeal Cert.KernelIdeal.Gen Cert.Calib

variable (c : Dev nD) (i : grid0.Coords) (arg2 : Memref sig .tc .vmem S19x2x128 .f32) (harg2 : arg2.IsWhole)
  (arg3 : Memref sig .tc .vmem S1x19x128x512 .f32) (harg3 : arg3.IsWhole)
  (arg4 : Memref sig .tc .vmem S1x19x1x1x512 .f32) (harg4 : arg4.IsWhole)
  (arg5 : Memref sig .tc .vmem S1x19x1x1x512 .f32) (harg5 : arg5.IsWhole)
  (arg6 : Memref sig .tc .vmem S1x19x128x512 .f32) (harg6 : arg6.IsWhole)
  (x0 : Vec Ideal S19x2x128 .f32) (x1 : Vec Ideal S1x19x128x512 .f32) (x2 x3 : Vec Ideal S1x19x1x1x512 .f32)

/-- A grid point's blocks are those of image `b`, block row `hb`: its 128 rows, the row above, the row below, and the
    table in rows of 128 lanes. -/
structure Blocks (X : FVec Ideal ⟨4, ![4, 19, 512, 512]⟩ .f32) (T : FVec Ideal ⟨3, ![19, 9, 15]⟩ .f32) (b hb : Fin 4) : Prop where
  row : (i 1).val = hb.val
  table : ∀ (k : Fin 19) (n : ℕ), n < 135 →
    x0 (ix3 k (Fin.ofNat 2 (n / 128)) (Fin.ofNat 128 n)) = T (ix3 k (Fin.ofNat 9 (n / 15)) (Fin.ofNat 15 n))
  main : ∀ (k : Fin 19) (p : Fin 128) (q : Fin 512), x1 (ix4 0 k p q) = scores X b (hb.val * 128 + p.val) q.val k
  above : 0 < hb.val → ∀ (k : Fin 19) (q : Fin 512), x2 (ix5 0 k 0 0 q) = scores X b (hb.val * 128 - 1) q.val k
  below : hb.val < 3 → ∀ (k : Fin 19) (q : Fin 512), x3 (ix5 0 k 0 0 q) = scores X b (hb.val * 128 + 128) q.val k

variable {i x0 x1 x2 x3} {X : FVec Ideal ⟨4, ![4, 19, 512, 512]⟩ .f32} {T : FVec Ideal ⟨3, ![19, 9, 15]⟩ .f32} {b hb : Fin 4}
  (H : Blocks i x0 x1 x2 x3 X T b hb)

include H

open kernelRun0_A

/-- The scores the block reads for its own pixels. -/
theorem scores_main (p : Fin 128) (q : Fin 512) :
    (fun k => mat (ldBlock arg3 harg3 x1 k) (ix2 p q)) = scores X b (hb.val * 128 + p.val) q.val :=
  funext fun k => (mat_ldBlock arg3 harg3 x1 k p q).trans (H.main k p q)

/-- The scores the block reads for the row above it. -/
theorem scores_above (h : 0 < hb.val) (q : Fin 512) :
    (fun k => rowMat (ldRow arg4 harg4 x2 k) (ix2 0 q)) = scores X b (hb.val * 128 - 1) q.val :=
  funext fun k => (rowMat_ldRow arg4 harg4 x2 k q).trans (H.above h k q)

/-- The scores the block reads for the row below it. -/
theorem scores_below (h : hb.val < 3) (q : Fin 512) :
    (fun k => rowMat (ldRow arg5 harg5 x3 k) (ix2 0 q)) = scores X b (hb.val * 128 + 128) q.val :=
  funext fun k => (rowMat_ldRow arg5 harg5 x3 k q).trans (H.below h k q)

/-- The block's maximum is each pixel's largest score. -/
theorem max_apply (p : Fin 128) (q : Fin 512) :
    sl.r_21 c arg3 harg3 x1 (ix2 p q) = top (scores X b (hb.val * 128 + p.val) q.val) := by
  rw [max_eq, maxUpto_apply, scores_main arg3 harg3 H p q]

/-- The block's labels. -/
theorem label_main (p : Fin 128) (q : Fin 512) :
    sl.r_84 c arg3 harg3 x1 (ix2 p q) = BitVec.ofNat 32 (label X b (hb.val * 128 + p.val) q.val).val := by
  rw [labels_eq, labels_apply _ _ _ (by rw [max_eq, maxUpto_apply]), scores_main arg3 harg3 H p q]
  rfl

/-- The labels of the row above. -/
theorem label_above (h : 0 < hb.val) (q : Fin 512) :
    sl.r_86 c arg4 harg4 x2 (ix2 0 q) = BitVec.ofNat 32 (label X b (hb.val * 128 - 1) q.val).val := by
  rw [labelsTop_eq, labels_apply _ _ _ (by rw [maxTop_eq, maxUpto_apply]), scores_above arg4 harg4 H h q]
  rfl

/-- The labels of the row below. -/
theorem label_below (h : hb.val < 3) (q : Fin 512) :
    below c arg5 harg5 x3 (ix2 0 q) = BitVec.ofNat 32 (label X b (hb.val * 128 + 128) q.val).val := by
  rw [below, labels_apply _ _ _ (by rw [maxBot_eq, maxUpto_apply]), scores_below arg5 harg5 H h q]
  rfl

/-- The count of a class around a pixel. -/
theorem count_apply (k : Fin 19) (p : Fin 128) (q : Fin 512) :
    field (wordOf c i arg3 harg3 arg4 harg4 arg5 harg5 x1 x2 x3 k) k.val (ix2 p q)
      = BitVec.ofNat 32 (around (labelled (label X b) k) (hb.val * 128 + p.val) q.val) := by
  refine field_apply (label X b) hb k _ p q ?_
  refine word_apply (label X b) hb ⟨k.val / 8, by omega⟩ _ (fun p q => ?_) p q
  unfold ext
  rw [H.row]
  exact extended_apply (label X b) hb _ _ _ (label_main c arg3 harg3 H) (label_above c arg4 harg4 H) (label_below c arg5 harg5 H) p q

/-- The probability of a class. -/
theorem prob_apply (k : Fin 19) (p : Fin 128) (q : Fin 512) :
    (mat (unmat (expo (mat (ldBlock arg3 harg3 x1 k)) (sl.r_21 c arg3 harg3 x1))) (ix2 p q) * sl.r_88 c arg3 harg3 x1 (ix2 p q) : EReal)
      = prob (scores X b (hb.val * 128 + p.val) q.val) k := by
  have hx := scores_main arg3 harg3 H p q
  have hm := max_apply c arg3 harg3 H p q
  have e : mat (unmat (expo (mat (ldBlock arg3 harg3 x1 k)) (sl.r_21 c arg3 harg3 x1))) (ix2 p q)
      = Ideal.exp ((mat (ldBlock arg3 harg3 x1 k) (ix2 p q) : EReal) - sl.r_21 c arg3 harg3 x1 (ix2 p q)) := by
    unfold mat unmat
    rw [shapeCast_shapeCast]
    rfl
  rw [e, hm, congrFun hx k, inv_eq, recip_apply, sumExp_apply _ _ _ (by rw [max_eq, maxUpto_apply]), hx]
  rfl

/-- The value of a class at a pixel is its table entry. -/
theorem value_apply (k : Fin 19) (p : Fin 128) (q : Fin 512) :
    valAt c i arg2 harg2 arg3 harg3 arg4 harg4 arg5 harg5 arg6 x0 x1 x2 x3 k (ix2 p q)
      = entry X T b k (hb.val * 128 + p.val) q.val := by
  have hp := prob_apply c arg3 harg3 H k p q
  have hc := combine_apply (mat (unmat (expo (mat (ldBlock arg3 harg3 x1 k)) (sl.r_21 c arg3 harg3 x1)))) (sl.r_88 c arg3 harg3 x1)
    (wordOf c i arg3 harg3 arg4 harg4 arg5 harg5 x1 x2 x3 k) (sl.r_84 c arg3 harg3 x1) (neighbours (BitVec.ofNat 32 (i 1).val)) k
    (label X b (hb.val * 128 + p.val) q.val) (around (labelled (label X b) k) (hb.val * 128 + p.val) q.val)
    (around inside (hb.val * 128 + p.val) q.val) (ix2 p q) (label_main c arg3 harg3 H p q)
    (count_apply c arg3 harg3 arg4 harg4 arg5 harg5 H k p q) (by rw [H.row]; exact neighbours_apply hb p q)
    (around_labelled_le _ _ _ _) (by rw [hp]; exact prob_nonneg _ _)
  rw [hp] at hc
  change _ = BitVec.ofNat 32 (agree (label X b) k (hb.val * 128 + p.val) q.val * 15 + _) at hc
  have ha := agree_le (label X b) k (hb.val * 128 + p.val) q.val
  have hb' := bin_le (prob (scores X b (hb.val * 128 + p.val) q.val) k)
  rw [valAt_eq, valOf, lookAll_apply _ _ p q _ (by omega) hc, ldTable_ix3, H.table k _ (by omega), entry]
  congr 2
  · congr 1; omega
  · exact Fin.ext (by show (_ * 15 + _) % 15 = _ % 15; omega)

omit H in
/-- A matrix given its two unit axes, read at an index. -/
theorem unmat_apply (x : FVec Ideal S128x512 .f32) (p : Fin 128) (q : Fin 512) : unmat x (ix4 0 0 p q) = x (ix2 p q) := by
  pointwise

/-- What the grid point writes back at a pixel is the result there. -/
theorem block_apply (k : Fin 19) (p : Fin 128) (q : Fin 512) (r : Fin 512) (hr : r.val = hb.val * 128 + p.val) :
    out0_A_4 c i arg2 harg2 arg3 harg3 arg4 harg4 arg5 harg5 arg6 harg6 x0 x1 x2 x3 (ix4 0 k p q) = result X T (ix4 b k r q) := by
  have e : (plane k).toLoadRect.idx (ix4 (n0 := 1) (n1 := 1) (n2 := 128) (n3 := 512) 0 0 p q) = ix4 0 k p q := by
    funext a
    fin_cases a <;> apply Fin.ext <;> simp [LoadRect.idx, ix4]
  have o := out_apply c i arg2 harg2 arg3 harg3 arg4 harg4 arg5 harg5 arg6 harg6 x0 x1 x2 x3 k (ix4 0 0 p q)
  rw [e] at o
  rw [o]
  have v := fun k => value_apply c arg2 harg2 arg3 harg3 arg4 harg4 arg5 harg5 arg6 H k p q
  rw [unmat_apply, result]
  show (mat (unmat (valAt c i arg2 harg2 arg3 harg3 arg4 harg4 arg5 harg5 arg6 x0 x1 x2 x3 k)) (ix2 p q) : EReal) * scale _ (ix2 p q) = _
  rw [scale_apply, sumVals_apply, Finset.sum_congr rfl fun k _ => v k, mul_div_one _ _ (nonzero_ne _)]
  unfold mat unmat
  rw [shapeCast_shapeCast, v]
  show Ideal.div (entry X T b k (hb.val * 128 + p.val) q.val) (nonzero (∑ k, entry X T b k (hb.val * 128 + p.val) q.val))
    = Ideal.div (entry X T b k r.val q.val) (nonzero (∑ k, entry X T b k r.val q.val))
  rw [hr]

end Cert.KernelIdeal.Model

end
-- ==== Proof.Entry.lean ====
module

public import proofs.«01_k».proof.Proof.Block
public import Idealize.ShloMosaic.Lib.Routing.OpsSet
public import Idealize.ShloMosaic.Lib.Routing.OpsPair
public import Idealize.ShloMosaic.Lib.Claim

/-! What the program prepares before the launch: the table laid out in two planes of 128 columns, and
the rows of logits next to each band of rows. -/

@[expose] public section

set_option maxRecDepth 16384

noncomputable section

namespace Cert.KernelIdeal.Entry
open Idealize.ShloMosaic Idealize.ShloMosaic.TcCoe Idealize.SL.Sem
open Cert.KernelIdeal Cert.KernelIdeal.Gen Cert.Calib

/-- A vector's elements are numbered by their index. -/
theorem rowMajor_ix1 : ∀ h : Fin 4, (S4.rowMajor (ix1 h)).val = h.val := by decide +kernel

/-- The rows of logits named by the four words `l`, one for each band of rows. -/
def picked (x : Vec Ideal S4x19x512x512 .f32) (l : Fin 4 → BitVec 32) : Vec Ideal S4x19x4x1x512 .f32 :=
  shapeCast S4x19x4x1x512 (Host.gather gather_S4x19x512x512_S4x1_S4x19x4x512_013_2_n_n_2_1_4191512 x
    (broadcastInDim S4x1 ![0] bcast_S4_S4x1_0 (fun i => l (S4.rowMajor i)))) shapeCasts_S4x19x4x512_S4x19x4x1x512

/-- Entry `(b, k, h, 0, q)` of the picked rows is the logit of class `k` at column `q` of row `l h`. -/
theorem picked_apply (x : Vec Ideal S4x19x512x512 .f32) (l : Fin 4 → BitVec 32) (b : Fin 4) (k : Fin 19) (h : Fin 4)
    (q : Fin 512) (r : Fin 512) (hr : (l h).toInt = r.val) :
    picked x l (ix5 b k h 0 q) = x (ix4 b k r q) := by
  unfold picked
  pointwise
  unfold Host.gather
  refine congrArg x (funext fun a => Fin.ext ?_)
  fin_cases a
  · change 0 + 0 + b.val = b.val; omega
  · change 0 + 0 + k.val = k.val; omega
  · change min (l (S4.rowMajor (ix1 h))).toInt.toNat 511 + 0 + 0 = r.val
    rw [show S4.rowMajor (ix1 h) = h from Fin.ext (rowMajor_ix1 h), hr]
    have := r.isLt
    omega
  · change 0 + 0 + q.val = q.val; omega

/-- The table in two planes: columns 0..127 in the first, columns 128..134 at the start of the second. -/
def planes (y : Vec Ideal S19x9x15 .f32) : Vec Ideal S19x2x128 .f32 :=
  Host.scatter scatter_S19x2x128_S2_S19x7_01_1_12_0 (fun x b => b)
      (Host.scatter scatter_S19x2x128_S1_S19x128_01_1_1_0 (fun x b => b)
        (broadcastInDim S19x2x128 ![] bcast_S_S19x2x128 (constant (F := Ideal) S_ FTy.f32 0#32))
        (broadcastInDim S1 ![] bcast_S_S1 (constantI S_ 32 0#32))
        (extractStridedSlice S19x128 ![0, 0] (shapeCast S19x135 y shapeCasts_S19x9x15_S19x135) slices_S19x135_S19x128_0_0))
      (concatenate S2 0
        [⟨S1, broadcastInDim S1 ![] bcast_S_S1 (constantI S_ 32 1#32)⟩,
          ⟨S1, broadcastInDim S1 ![] bcast_S_S1 (constantI S_ 32 0#32)⟩]
        concatenates_S1_S1_S2_d0)
      (extractStridedSlice S19x7 ![0, 128] (shapeCast S19x135 y shapeCasts_S19x9x15_S19x135) slices_S19x135_S19x7_0_128)

/-- The second scatter writes update `(a, b)` at plane 1, column `b`. -/
theorem late_iff (a : Fin 19) (b : Fin 7) (k : Fin 19) (p : Fin 2) (n : Fin 128) :
    scatter_S19x2x128_S2_S19x7_01_1_12_0.resultIdx? (ix2 a b) (concatenate S2 0
        [⟨S1, broadcastInDim S1 ![] bcast_S_S1 (constantI S_ 32 1#32)⟩,
          ⟨S1, broadcastInDim S1 ![] bcast_S_S1 (constantI S_ 32 0#32)⟩]
        concatenates_S1_S1_S2_d0) = some (ix3 k p n) ↔ a = k ∧ p = 1 ∧ b.val = n.val := by
  rw [Routing.resultIdx?_eq_some, Fin.forall_fin_succ, Fin.forall_fin_succ, Fin.forall_fin_succ]
  change (0 + (a.val : Int) = k.val ∧ (1#32).toInt + 0 = p.val ∧ (0#32).toInt + (b.val : Int) = n.val ∧ _) ↔ _
  have hz : (0#32).toInt = 0 := by decide
  have ho : (1#32).toInt = 1 := by decide
  have h0 : (0 : Fin 2).val = 0 := rfl
  have h1 : (1 : Fin 2).val = 1 := rfl
  simp only [hz, ho, Fin.ext_iff, h0, h1]
  constructor
  · rintro ⟨h1, h2, h3, -⟩
    exact ⟨by omega, by omega, by omega⟩
  · rintro ⟨h1, h2, h3⟩
    exact ⟨by omega, by omega, by omega, fun i => i.elim0⟩

/-- The first scatter writes update `(a, b)` at plane 0, column `b`. -/
theorem early_iff (a : Fin 19) (b : Fin 128) (k : Fin 19) (p : Fin 2) (n : Fin 128) :
    scatter_S19x2x128_S1_S19x128_01_1_1_0.resultIdx? (ix2 a b) (broadcastInDim S1 ![] bcast_S_S1 (constantI S_ 32 0#32))
       = some (ix3 k p n) ↔ a = k ∧ p = 0 ∧ b.val = n.val := by
  rw [Routing.resultIdx?_eq_some, Fin.forall_fin_succ, Fin.forall_fin_succ, Fin.forall_fin_succ]
  change (0 + (a.val : Int) = k.val ∧ (0#32).toInt + 0 = p.val ∧ 0 + (b.val : Int) = n.val ∧ _) ↔ _
  have hz : (0#32).toInt = 0 := by decide
  have ho : (1#32).toInt = 1 := by decide
  have h0 : (0 : Fin 2).val = 0 := rfl
  have h1 : (1 : Fin 2).val = 1 := rfl
  simp only [hz, ho, Fin.ext_iff, h0, h1]
  constructor
  · rintro ⟨h1, h2, h3, -⟩
    exact ⟨by omega, by omega, by omega⟩
  · rintro ⟨h1, h2, h3⟩
    exact ⟨by omega, by omega, by omega, fun i => i.elim0⟩

/-- Two ways to write a table index agree when row and column do. -/
theorem place (y : Vec Ideal S19x9x15 .f32) (k : Fin 19) (a : Fin 9) (b : Fin 15) (n : ℕ) (ha : a.val = n / 15)
    (hb : b.val = n % 15) : y (ix3 k a b) = y (ix3 k (Fin.ofNat 9 (n / 15)) (Fin.ofNat 15 n)) := by
  have h1 : a = Fin.ofNat 9 (n / 15) := Fin.ext (by
    change a.val = n / 15 % 9
    have := a.isLt
    omega)
  have h2 : b = Fin.ofNat 15 n := Fin.ext hb
  rw [h1, h2]

/-- Column `n < 135` of the flat table is at plane `n / 128`, column `n % 128`. -/
theorem planes_apply (y : Vec Ideal S19x9x15 .f32) (k : Fin 19) (n : ℕ) (hn : n < 135) :
    planes y (ix3 k (Fin.ofNat 2 (n / 128)) (Fin.ofNat 128 n)) = y (ix3 k (Fin.ofNat 9 (n / 15)) (Fin.ofNat 15 n)) := by
  unfold planes
  by_cases h : n < 128
  · have e : Fin.ofNat 2 (n / 128) = 0 := Fin.ext (by simp [Fin.ofNat]; omega)
    rw [e]
    refine (Routing.scatter_set_miss _ _ _ _ _ ?_).trans ?_
    · intro j
      idx_vars j
      rw [Ne, late_iff]
      rintro ⟨-, h2, -⟩
      exact absurd h2 (by decide)
    · refine Routing.scatter_set_hit _ _ _ _ _ _ ?_ (ix2 k (Fin.ofNat 128 n)) ((early_iff ..).2 ⟨rfl, rfl, rfl⟩)
      intro j
      idx_vars j
      rw [early_iff]
      rintro ⟨rfl, -, h3⟩
      pointwise
      have e : j1.val = n := h3.trans (Nat.mod_eq_of_lt h)
      exact place y _ _ _ n (congrArg (· / 15) e) (congrArg (· % 15) e)
  · have e : Fin.ofNat 2 (n / 128) = 1 := Fin.ext (by simp [Fin.ofNat]; omega)
    rw [e]
    refine Routing.scatter_set_hit _ _ _ _ _ _ ?_ (ix2 k (Fin.ofNat 7 (n - 128))) ((late_iff ..).2 ⟨rfl, rfl, ?_⟩)
    · intro j
      idx_vars j
      rw [late_iff]
      rintro ⟨rfl, -, h3⟩
      pointwise
      have e : 128 + j1.val = n := by
        have h4 : j1.val = n % 128 := h3
        omega
      exact place y _ _ _ n (congrArg (· / 15) e) (congrArg (· % 15) e)
    · change (n - 128) % 7 = n % 128
      omega

variable (m : (ℓ : Loc nD τ sig) → Buf (Elt Ideal) ℓ) (c : Dev nD)

/-- The launch finds the two planes of the table, -/
theorem entry_table : V m c main_v9 = planes (m (c.tc.loc main_arg1)) := by
  unfold V hostOps0
  after_results
  rfl

/-- the rows above the bands, -/
theorem entry_above : V m c main_v15 = picked (m (c.tc.loc main_arg0)) lit0 := by
  unfold V hostOps0
  after_results
  rfl

/-- and the rows below the bands. -/
theorem entry_below : V m c main_v21 = picked (m (c.tc.loc main_arg0)) lit1 := by
  unfold V hostOps0
  after_results
  rfl

end Cert.KernelIdeal.Entry

end
-- ==== Proof.Whole.lean ====
module

public import proofs.«01_k».proof.Proof.Entry
public import proofs.«01_k».proof.Proof.Gen.KernelIdeal.Value

/-! The kernel's whole result: what each grid point reads, what it writes back, and the array the blocks
fill. -/

@[expose] public section

set_option maxRecDepth 16384

noncomputable section

namespace Cert.KernelIdeal.Whole
open Idealize.ShloMosaic Idealize.ShloMosaic.TcCoe Idealize.SL.Sem
open Idealize.ShloMosaic.Pipeline (Dat)
open Cert.KernelIdeal Cert.KernelIdeal.Gen Cert.KernelIdeal.Entry Cert.KernelIdeal.Model Cert.Calib

variable (m : (ℓ : Loc nD τ sig) → Buf (Elt Ideal) ℓ) (c : Dev nD) (t : Fin cfg0.N)

/-- A grid coordinate survives being written as a word. -/
theorem word_coord : ∀ a : Fin 4, (BitVec.ofNat 32 a.val).toNat = a.val := by decide

/-- The logits' block at a grid point is the image `b`, all classes, the band `h`. -/
theorem block_main (b h : Fin 4) (hb : grid0.coords t 0 = b) (hh : grid0.coords t 1 = h) (k : Fin 19) (p : Fin 128) (q : Fin 512) (r : Fin 512)
    (hr : r.val = h.val * 128 + p.val) :
    (iblk m c 1 t : Vec Ideal S1x19x128x512 .f32) (ix4 0 k p q) = (V m c main_arg0 : Vec Ideal S4x19x512x512 .f32) (ix4 b k r q) := by
  change V m c main_arg0 _ = _
  refine congrArg (V m c main_arg0) (funext fun a => Fin.ext ?_)
  have e0 := word_coord b
  have e1 := word_coord h
  subst hb hh
  fin_cases a
  · change (BitVec.ofNat 32 (grid0.coords t 0).val).toNat * 1 + 1 * 0 = (grid0.coords t 0).val
    omega
  · change 0 * 19 + 1 * k.val = k.val
    omega
  · change (BitVec.ofNat 32 (grid0.coords t 1).val).toNat * 128 + 1 * p.val = r.val
    omega
  · change 0 * 512 + 1 * q.val = q.val
    omega

/-- The row above the band, -/
theorem block_above (b h : Fin 4) (hb : grid0.coords t 0 = b) (hh : grid0.coords t 1 = h) (k : Fin 19) (q : Fin 512) :
    (iblk m c 2 t : Vec Ideal S1x19x1x1x512 .f32) (ix5 0 k 0 0 q) = (V m c main_v15 : Vec Ideal S4x19x4x1x512 .f32) (ix5 b k h 0 q) := by
  change V m c main_v15 _ = _
  refine congrArg (V m c main_v15) (funext fun a => Fin.ext ?_)
  have e0 := word_coord b
  have e1 := word_coord h
  subst hb hh
  fin_cases a
  · change (BitVec.ofNat 32 (grid0.coords t 0).val).toNat * 1 + 1 * 0 = (grid0.coords t 0).val
    omega
  · change 0 * 19 + 1 * k.val = k.val
    omega
  · change (BitVec.ofNat 32 (grid0.coords t 1).val).toNat * 1 + 1 * 0 = (grid0.coords t 1).val
    omega
  · rfl
  · change 0 * 512 + 1 * q.val = q.val
    omega

/-- and the row below it. -/
theorem block_below (b h : Fin 4) (hb : grid0.coords t 0 = b) (hh : grid0.coords t 1 = h) (k : Fin 19) (q : Fin 512) :
    (iblk m c 3 t : Vec Ideal S1x19x1x1x512 .f32) (ix5 0 k 0 0 q) = (V m c main_v21 : Vec Ideal S4x19x4x1x512 .f32) (ix5 b k h 0 q) := by
  change V m c main_v21 _ = _
  refine congrArg (V m c main_v21) (funext fun a => Fin.ext ?_)
  have e0 := word_coord b
  have e1 := word_coord h
  subst hb hh
  fin_cases a
  · change (BitVec.ofNat 32 (grid0.coords t 0).val).toNat * 1 + 1 * 0 = (grid0.coords t 0).val
    omega
  · change 0 * 19 + 1 * k.val = k.val
    omega
  · change (BitVec.ofNat 32 (grid0.coords t 1).val).toNat * 1 + 1 * 0 = (grid0.coords t 1).val
    omega
  · rfl
  · change 0 * 512 + 1 * q.val = q.val
    omega

/-- The table's block is the whole table. -/
theorem block_table (k : Fin 19) (p : Fin 2) (q : Fin 128) :
    (iblk m c 0 t : Vec Ideal S19x2x128 .f32) (ix3 k p q) = (V m c main_v9 : Vec Ideal S19x2x128 .f32) (ix3 k p q) := by
  change V m c main_v9 _ = _
  refine congrArg (V m c main_v9) (funext fun a => Fin.ext ?_)
  fin_cases a
  · change 0 * 19 + 1 * k.val = k.val
    omega
  · change 0 * 2 + 1 * p.val = p.val
    omega
  · change 0 * 128 + 1 * q.val = q.val
    omega

/-- The row above a band, for the bands below the first. -/
theorem lit_above : ∀ h : Fin 4, 0 < h.val → (lit0 h).toInt = ((h.val * 128 - 1 : ℕ) : Int) := by decide

/-- The row below a band, for the bands above the last. -/
theorem lit_below : ∀ h : Fin 4, h.val < 3 → (lit1 h).toInt = ((h.val * 128 + 128 : ℕ) : Int) := by decide

/-- A column is its own number below 512. -/
theorem column (q : Fin 512) : q = Fin.ofNat 512 q.val := (Cert.Calib.ofNat_eq q).symm

/-- What a grid point reads is what the pixels of its band need. -/
theorem blocks : Blocks (grid0.coords t) (iblk m c 0 t) (iblk m c 1 t) (iblk m c 2 t) (iblk m c 3 t)
    (m (c.tc.loc main_arg0)) (m (c.tc.loc main_arg1)) (grid0.coords t 0) (grid0.coords t 1) where
  row := rfl
  table k n hn := by
    rw [block_table, entry_table, planes_apply _ _ _ hn]
  main k p q := by
    have h1 : (grid0.coords t 1).val < 4 := (grid0.coords t 1).isLt
    have h2 := p.isLt
    have hr : (Fin.ofNat 512 ((grid0.coords t 1).val * 128 + p.val)).val = (grid0.coords t 1).val * 128 + p.val :=
      Nat.mod_eq_of_lt (by omega)
    rw [block_main m c t _ _ rfl rfl k p q _ hr, V_main_arg0]
    exact congrArg (fun a => m (c.tc.loc main_arg0) (ix4 _ k _ a)) (column q)
  above h0 k q := by
    have h1 : (grid0.coords t 1).val < 4 := (grid0.coords t 1).isLt
    have hr : (lit0 (grid0.coords t 1)).toInt = (Fin.ofNat 512 ((grid0.coords t 1).val * 128 - 1)).val := by
      rw [lit_above _ h0]
      exact congrArg Nat.cast (Nat.mod_eq_of_lt (by omega)).symm
    rw [block_above m c t _ _ rfl rfl, entry_above]
    refine (picked_apply _ _ _ _ _ _ _ hr).trans ?_
    exact congrArg (fun a => m (c.tc.loc main_arg0) (ix4 _ k _ a)) (column q)
  below h3 k q := by
    have hr : (lit1 (grid0.coords t 1)).toInt = (Fin.ofNat 512 ((grid0.coords t 1).val * 128 + 128)).val := by
      rw [lit_below _ h3]
      exact congrArg Nat.cast (Nat.mod_eq_of_lt (by omega)).symm
    rw [block_below m c t _ _ rfl rfl, entry_below]
    refine (picked_apply _ _ _ _ _ _ _ hr).trans ?_
    exact congrArg (fun a => m (c.tc.loc main_arg0) (ix4 _ k _ a)) (column q)

/-- What the kernel's result array is shown to hold: the result of every pixel. -/
abbrev whole : Buf (Elt Ideal) ((c : Thread nD τ).loc main_v22) :=
  result (m (c.tc.loc main_arg0)) (m (c.tc.loc main_arg1))

/-- Where the result's block of a grid point lies in the array. -/
theorem block_result (G : Vec Ideal S4x19x512x512 .f32) (k : Fin 19) (p : Fin 128) (q : Fin 512) (r : Fin 512)
    (hr : r.val = (grid0.coords t 1).val * 128 + p.val) :
    ((cfg0.win 4).blk t).view.read (Elt Ideal) G (ix4 0 k p q) = G (ix4 (grid0.coords t 0) k r q) := by
  change G _ = _
  refine congrArg G (funext fun a => Fin.ext ?_)
  have e0 := word_coord (grid0.coords t 0)
  have e1 := word_coord (grid0.coords t 1)
  fin_cases a
  · change (BitVec.ofNat 32 (grid0.coords t 0).val).toNat * 1 + 1 * 0 = (grid0.coords t 0).val
    omega
  · change 0 * 19 + 1 * k.val = k.val
    omega
  · change (BitVec.ofNat 32 (grid0.coords t 1).val).toNat * 128 + 1 * p.val = r.val
    omega
  · change 0 * 512 + 1 * q.val = q.val
    omega

/-- What a grid point writes back is its block of the whole result. -/
theorem flushed_eq : (dats m 0 c).flushed 4 t = ((cfg0.win 4).blk t).view.read (Elt Ideal) (whole m c) := by
  rw [Value.flushed4_A]
  funext j
  change Shape.Idx S1x19x128x512 at j
  idx_vars j
  have h1 : (grid0.coords t 1).val < 4 := (grid0.coords t 1).isLt
  have h2 := j2.isLt
  have h0 : j0 = 0 := Subsingleton.elim _ _
  subst h0
  have hr : (Fin.ofNat 512 ((grid0.coords t 1).val * 128 + j2.val)).val = (grid0.coords t 1).val * 128 + j2.val :=
    Nat.mod_eq_of_lt (by omega)
  refine Eq.trans ?_ (block_result t (whole m c) j1 j2 j3 _ hr).symm
  exact block_apply (H := blocks m c t) (hr := hr) ..

/-- Every image and band has its grid point. -/
theorem point : ∀ b h : Fin 4, ∃ t : Fin cfg0.N, (grid0.coords t 0).val = b.val ∧ (grid0.coords t 1).val = h.val := by
  decide +kernel

/-- The blocks fill the array. -/
theorem cover (i : S4x19x512x512.Idx) :
    ∃ t : Fin cfg0.N, (cfg0.win 4).flush t = true ∧ i ∈ ((cfg0.win 4).blk t).view.set := by
  have h0 : (i 0).val < 4 := (i 0).isLt
  have h1 : (i 1).val < 19 := (i 1).isLt
  have h2 : (i 2).val < 512 := (i 2).isLt
  have h3 : (i 3).val < 512 := (i 3).isLt
  obtain ⟨t, hb, hh⟩ := point ⟨(i 0).val, h0⟩ ⟨(i 2).val / 128, by omega⟩
  refine ⟨t, flush0_4 t, ?_⟩
  show i ∈ ((View.whole main_v22).slice (win0_4.rect t)).set
  rw [View.set_slice_whole, Rect.mem_set_unit]
  have e0 := word_coord (grid0.coords t 0)
  have e1 := word_coord (grid0.coords t 1)
  dsimp only at hb hh
  intro a
  fin_cases a
  · change (BitVec.ofNat 32 (grid0.coords t 0).val).toNat * 1 ≤ (i 0).val ∧ (i 0).val < (BitVec.ofNat 32 (grid0.coords t 0).val).toNat * 1 + 1
    omega
  · change 0 * 19 ≤ (i 1).val ∧ (i 1).val < 0 * 19 + 19
    omega
  · change (BitVec.ofNat 32 (grid0.coords t 1).val).toNat * 128 ≤ (i 2).val ∧ (i 2).val < (BitVec.ofNat 32 (grid0.coords t 1).val).toNat * 128 + 128
    omega
  · change 0 * 512 ≤ (i 3).val ∧ (i 3).val < 0 * 512 + 512
    omega

/-- So the result array ends holding the result of every pixel, -/
theorem final : (dats m 0 c).arrAt 4 cfg0.N = whole m c :=
  (dats m 0 c).arrAt_eq_of_cover 4 (whole m c) (fun t _ => flushed_eq m c t) cover

/-- and the run, read: the result array at the result of every pixel, the arguments unchanged. -/
theorem run (ρ : Dev nD → PrngReg) : θ_run defs (onTc (τ := τ) (main (F := Ideal))) ⟨m, fun _ => 0, ρ⟩ fun r => ∀ c : Dev nD,
      r.2.mem (c.tc.loc main_v22) = whole m c
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Value.run_blocks m ρ)

end Cert.KernelIdeal.Whole

end
-- ==== Proof.RefModel.lean ====
module

public import proofs.«01_k».proof.Proof.Gen.ReferenceIdeal
public import Idealize.ShloMosaic.PureOps.Ideal.Laws

/-! The reference as functions of whole arrays, one for each step of its text. -/

@[expose] public section

set_option maxRecDepth 16384

noncomputable section

namespace Cert.ReferenceIdeal.Model
open Idealize.ShloMosaic Cert.ReferenceIdeal Cert.ReferenceIdeal.Gen

/-- An array of reals over images, classes, rows and columns. -/
abbrev Reals := FVec Ideal S4x19x512x512 .f32
/-- The same of words. -/
abbrev Words := IVec S4x19x512x512 32

/-- A map over pixels, repeated for every class. -/
def spread (x : FVec Ideal S4x512x512 .f32) : Reals :=
  broadcastInDim S4x19x512x512 ![0, 1, 2, 3] bcast_S4x1x512x512_S4x19x512x512_0_1_2_3
    (broadcastInDim S4x1x512x512 ![0, 2, 3] bcast_S4x512x512_S4x1x512x512_0_2_3 x)

/-- A constant array of reals. -/
def fill (w : BitVec 32) : Reals :=
  broadcastInDim S4x19x512x512 ![] bcast_S_S4x19x512x512 (constant (F := Ideal) S_ .f32 w)

/-- A constant array of words. -/
def fillWord (w : BitVec 32) : Words :=
  broadcastInDim S4x19x512x512 ![] bcast_S_S4x19x512x512 (constantI S_ 32 w)

/-- The greatest logit of each pixel. -/
def greatest (x : Reals) : FVec Ideal S4x512x512 .f32 :=
  maximumf (broadcastInDim S4x512x512 ![] bcast_S_S4x512x512 (constant (F := Ideal) S_ .f32 0xFF800000#32))
    (Host.reduce FloatOps.maximumf x (constant (F := Ideal) S_ .f32 0xFF800000#32) reducesTo_S4x19x512x512_S4x512x512_d1 h_S_)

/-- The exponentials of the logits less the greatest. -/
def exps (x : Reals) : Reals := Host.exp (subf x (spread (greatest x)))

/-- Sums over the classes. -/
def sums (x : Reals) : FVec Ideal S4x512x512 .f32 :=
  Host.reduceAdd x (constant (F := Ideal) S_ .f32 0x00000000#32) reducesTo_S4x19x512x512_S4x512x512_d1 h_S_

/-- The softmax. -/
def softmax (x : Reals) : Reals := Host.divf (exps x) (spread (sums (exps x)))

/-- The class of the greatest probability. -/
def hard (p : Reals) : IVec S4x512x512 32 := fun j =>
  (Host.argReduce reducer_argmax_f32_i32 p (iotaInDim S4x19x512x512 32 1) (constant (F := Ideal) S_ .f32 0xFF800000#32)
    (constantI S_ 32 0#32) reducesTo_S4x19x512x512_S4x512x512_d1 h_S_ j).2

/-- The numbers of the classes. -/
def classes : IVec S1x19x1x1 32 := broadcastInDim S1x19x1x1 ![1] bcast_S19_S1x19x1x1_1 (iotaInDim S19 32 0)

/-- One where the pixel has the class, zero elsewhere. -/
def maps (y : IVec S4x512x512 32) : Reals :=
  sitofp .f32 (extui 32 (cmpi .eq
    (broadcastInDim S4x19x512x512 ![0, 1, 2, 3] bcast_S4x1x512x512_S4x19x512x512_0_1_2_3
      (broadcastInDim S4x1x512x512 ![0, 2, 3] bcast_S4x512x512_S4x1x512x512_0_2_3 y))
    (broadcastInDim S4x19x512x512 ![0, 1, 2, 3] bcast_S1x19x1x1_S4x19x512x512_0_1_2_3 classes)) natLt_1_32)

/-- A frame of zeros, one pixel wide. -/
def framed (x : Reals) : FVec Ideal S4x19x514x514 .f32 :=
  pad S4x19x514x514 ![0, 0, 1, 1] ![0, 0, 1, 1] ![0, 0, 0, 0] x (sitofp (F := Ideal) .f32 (constantI S_ 32 0#32))
    pads_S4x19x512x512_S4x19x514x514_000_000_110_110 h_S_

/-- The sum of the eight neighbours in a framed array. -/
def eight (y : FVec Ideal S4x19x514x514 .f32) : Reals :=
  addf (addf (addf (addf (addf (addf (addf (addf (fill 0x00000000#32)
    (extractStridedSlice S4x19x512x512 ![0, 0, 0, 0] y slices_S4x19x514x514_S4x19x512x512_0_0_0_0))
    (extractStridedSlice S4x19x512x512 ![0, 0, 0, 1] y slices_S4x19x514x514_S4x19x512x512_0_0_0_1))
    (extractStridedSlice S4x19x512x512 ![0, 0, 0, 2] y slices_S4x19x514x514_S4x19x512x512_0_0_0_2))
    (extractStridedSlice S4x19x512x512 ![0, 0, 1, 0] y slices_S4x19x514x514_S4x19x512x512_0_0_1_0))
    (extractStridedSlice S4x19x512x512 ![0, 0, 1, 2] y slices_S4x19x514x514_S4x19x512x512_0_0_1_2))
    (extractStridedSlice S4x19x512x512 ![0, 0, 2, 0] y slices_S4x19x514x514_S4x19x512x512_0_0_2_0))
    (extractStridedSlice S4x19x512x512 ![0, 0, 2, 1] y slices_S4x19x514x514_S4x19x512x512_0_0_2_1))
    (extractStridedSlice S4x19x512x512 ![0, 0, 2, 2] y slices_S4x19x514x514_S4x19x512x512_0_0_2_2)

/-- The sum of the neighbours, those outside the image counted as zero. -/
def conv (x : Reals) : Reals := eight (framed x)

/-- Words held between two bounds. -/
def clip (lo hi : BitVec 32) (x : Words) : Words := minsi (fillWord hi) (maxsi (fillWord lo) x)

/-- The number of neighbours that agree with the pixel, from the class maps, the number of neighbours and the sums
of the maps over the neighbours. -/
def matching (x ones pos : Reals) : Words :=
  clip 0#32 8#32 (fptosi 32 (Host.roundeven (addf (mulf x pos) (mulf (subf (fill 0x3F800000#32) x) (subf ones pos)))))

/-- The bin of each probability. -/
def bins (p : Reals) : Words := clip 0#32 14#32 (fptosi 32 (Host.floor (mulf p (fill 0x41700000#32))))

/-- A negative index is counted from the end. -/
def wrap (n : BitVec 32) (x : Words) : Words := select (cmpi .slt x (fillWord 0#32)) (addi x (fillWord n)) x

/-- The same for the class numbers. -/
def wrapClasses (x : IVec S1x19x1x1 32) : IVec S1x19x1x1 32 :=
  select (cmpi .slt x (broadcastInDim S1x19x1x1 ![] bcast_S_S1x19x1x1 (constantI S_ 32 0#32)))
    (addi x (broadcastInDim S1x19x1x1 ![] bcast_S_S1x19x1x1 (constantI S_ 32 19#32))) x

/-- One coordinate of the table's index. -/
def coordinate (x : Words) : IVec S4x19x512x512x1 32 :=
  broadcastInDim S4x19x512x512x1 ![0, 1, 2, 3] bcast_S4x19x512x512_S4x19x512x512x1_0_1_2_3 x

/-- The table read at class, number of agreeing neighbours and bin. -/
def lookup (T : FVec Ideal S19x9x15 .f32) (l : IVec S1x19x1x1 32) (a b : Words) : Reals :=
  Host.gather gather_S19x9x15_S4x19x512x512x3_S4x19x512x512_n_012_n_n_012_4_111 T
    (concatenate S4x19x512x512x3 4
      [⟨S4x19x512x512x1, coordinate (broadcastInDim S4x19x512x512 ![0, 1, 2, 3] bcast_S1x19x1x1_S4x19x512x512_0_1_2_3 (wrapClasses l))⟩,
       ⟨S4x19x512x512x1, coordinate (wrap 9#32 a)⟩, ⟨S4x19x512x512x1, coordinate (wrap 15#32 b)⟩]
      concatenates_S4x19x512x512x1_S4x19x512x512x1_S4x19x512x512x1_S4x19x512x512x3_d4)

/-- Division by the sum over the classes, by one where that sum is zero. -/
def normal (x : Reals) : Reals :=
  Host.divf x (broadcastInDim S4x19x512x512 ![0, 1, 2, 3] bcast_S4x1x512x512_S4x19x512x512_0_1_2_3
    (select (cmpf .oeq (broadcastInDim S4x1x512x512 ![0, 2, 3] bcast_S4x512x512_S4x1x512x512_0_2_3 (sums x))
        (broadcastInDim S4x1x512x512 ![] bcast_S_S4x1x512x512 (constant (F := Ideal) S_ .f32 0x00000000#32)))
      (broadcastInDim S4x1x512x512 ![] bcast_S_S4x1x512x512 (constant (F := Ideal) S_ .f32 0x3F800000#32))
      (broadcastInDim S4x1x512x512 ![0, 2, 3] bcast_S4x512x512_S4x1x512x512_0_2_3 (sums x))))

/-- The reference, whole. -/
def value (X : Reals) (T : FVec Ideal S19x9x15 .f32) : Reals :=
  normal (lookup T classes
    (matching (maps (hard (softmax X))) (conv (fill 0x3F800000#32)) (conv (maps (hard (softmax X))))) (bins (softmax X)))

end Cert.ReferenceIdeal.Model

end
-- ==== Proof.RefRun.lean ====
module

public import proofs.«01_k».proof.Proof.RefModel
public import Idealize.ShloMosaic.Lib.Claim

/-! The reference's run, read in nine stretches: what each stretch leaves in the arrays the later ones read. -/

@[expose] public section

set_option maxRecDepth 16384

noncomputable section

namespace Cert.ReferenceIdeal.Run
open Idealize.ShloMosaic Idealize.ShloMosaic.TcCoe Idealize.SL.Sem Cert.ReferenceIdeal Cert.ReferenceIdeal.Model

/-- The reference's operations in order, read off the program. -/
def line : { ops : List (HloOp τ sig (Elt Ideal)) // ∀ d, StableHlo.IsSeq (main (F := Ideal) d) ops } := by
  apply Subtype.mk
  hlo_seq

/-- The `n` operations from the `a`-th on. -/
def part (a n : ℕ) : List (HloOp τ sig (Elt Ideal)) := (line.1.drop a).take n

variable (W : Valuation τ sig (Elt Ideal))

/-- The softmax, -/
theorem softmax_run : StableHlo.after (part 0 14) W (Proc.devRef .tc main_v10) = softmax (W (Proc.devRef .tc main_arg0))
    ∧ StableHlo.after (part 0 14) W (Proc.devRef .tc main_arg1) = W (Proc.devRef .tc main_arg1) := by
  unfold part line
  simp only [List.drop_succ_cons, List.drop_zero, List.take_succ_cons, List.take_zero]
  constructor
  · after_results
    rfl
  · after_results

/-- the class of the greatest probability, -/
theorem hard_run : StableHlo.after (part 14 5) W (Proc.devRef .tc main_v11) = hard (W (Proc.devRef .tc main_v10))
    ∧ StableHlo.after (part 14 5) W (Proc.devRef .tc main_v10) = W (Proc.devRef .tc main_v10)
    ∧ StableHlo.after (part 14 5) W (Proc.devRef .tc main_arg1) = W (Proc.devRef .tc main_arg1) := by
  unfold part line
  simp only [List.drop_succ_cons, List.drop_zero, List.take_succ_cons, List.take_zero]
  refine ⟨?_, ?_, ?_⟩
  · after_results
    rfl
  · after_results
  · after_results

/-- the class maps, -/
theorem maps_run : StableHlo.after (part 19 8) W (Proc.devRef .tc main_v19) = maps (W (Proc.devRef .tc main_v11))
    ∧ StableHlo.after (part 19 8) W (Proc.devRef .tc main_v13) = classes
    ∧ StableHlo.after (part 19 8) W (Proc.devRef .tc main_v10) = W (Proc.devRef .tc main_v10)
    ∧ StableHlo.after (part 19 8) W (Proc.devRef .tc main_arg1) = W (Proc.devRef .tc main_arg1) := by
  unfold part line
  simp only [List.drop_succ_cons, List.drop_zero, List.take_succ_cons, List.take_zero]
  refine ⟨?_, ?_, ?_, ?_⟩
  · after_results
    rfl
  · after_results
    rfl
  · after_results
  · after_results

/-- the number of neighbours, -/
theorem ones_run : StableHlo.after (part 27 23) W (Proc.devRef .tc main_v38) = conv (fill 0x3F800000#32)
    ∧ StableHlo.after (part 27 23) W (Proc.devRef .tc main_v19) = W (Proc.devRef .tc main_v19)
    ∧ StableHlo.after (part 27 23) W (Proc.devRef .tc main_v13) = W (Proc.devRef .tc main_v13)
    ∧ StableHlo.after (part 27 23) W (Proc.devRef .tc main_v10) = W (Proc.devRef .tc main_v10)
    ∧ StableHlo.after (part 27 23) W (Proc.devRef .tc main_arg1) = W (Proc.devRef .tc main_arg1) := by
  unfold part line
  simp only [List.drop_succ_cons, List.drop_zero, List.take_succ_cons, List.take_zero]
  refine ⟨?_, ?_, ?_, ?_, ?_⟩
  · after_results
    rfl
  · after_results
  · after_results
  · after_results
  · after_results

/-- the sums of the maps over the neighbours, -/
theorem positives_run : StableHlo.after (part 50 21) W (Proc.devRef .tc main_v56) = conv (W (Proc.devRef .tc main_v19))
    ∧ StableHlo.after (part 50 21) W (Proc.devRef .tc main_v38) = W (Proc.devRef .tc main_v38)
    ∧ StableHlo.after (part 50 21) W (Proc.devRef .tc main_v19) = W (Proc.devRef .tc main_v19)
    ∧ StableHlo.after (part 50 21) W (Proc.devRef .tc main_v13) = W (Proc.devRef .tc main_v13)
    ∧ StableHlo.after (part 50 21) W (Proc.devRef .tc main_v10) = W (Proc.devRef .tc main_v10)
    ∧ StableHlo.after (part 50 21) W (Proc.devRef .tc main_arg1) = W (Proc.devRef .tc main_arg1) := by
  unfold part line
  simp only [List.drop_succ_cons, List.drop_zero, List.take_succ_cons, List.take_zero]
  refine ⟨?_, ?_, ?_, ?_, ?_, ?_⟩
  · after_results
    rfl
  · after_results
  · after_results
  · after_results
  · after_results
  · after_results

/-- the agreeing neighbours, -/
theorem matching_run : StableHlo.after (part 71 17) W (Proc.devRef .tc main_v65)
      = matching (W (Proc.devRef .tc main_v19)) (W (Proc.devRef .tc main_v38)) (W (Proc.devRef .tc main_v56))
    ∧ StableHlo.after (part 71 17) W (Proc.devRef .tc main_v13) = W (Proc.devRef .tc main_v13)
    ∧ StableHlo.after (part 71 17) W (Proc.devRef .tc main_v10) = W (Proc.devRef .tc main_v10)
    ∧ StableHlo.after (part 71 17) W (Proc.devRef .tc main_arg1) = W (Proc.devRef .tc main_arg1) := by
  unfold part line
  simp only [List.drop_succ_cons, List.drop_zero, List.take_succ_cons, List.take_zero]
  refine ⟨?_, ?_, ?_, ?_⟩
  · after_results
    rfl
  · after_results
  · after_results
  · after_results

/-- the bins, -/
theorem bins_run : StableHlo.after (part 88 13) W (Proc.devRef .tc main_v70) = bins (W (Proc.devRef .tc main_v10))
    ∧ StableHlo.after (part 88 13) W (Proc.devRef .tc main_v65) = W (Proc.devRef .tc main_v65)
    ∧ StableHlo.after (part 88 13) W (Proc.devRef .tc main_v13) = W (Proc.devRef .tc main_v13)
    ∧ StableHlo.after (part 88 13) W (Proc.devRef .tc main_arg1) = W (Proc.devRef .tc main_arg1) := by
  unfold part line
  simp only [List.drop_succ_cons, List.drop_zero, List.take_succ_cons, List.take_zero]
  refine ⟨?_, ?_, ?_, ?_⟩
  · after_results
    rfl
  · after_results
  · after_results
  · after_results

/-- the table read, -/
theorem lookup_run : StableHlo.after (part 101 27) W (Proc.devRef .tc main_v91)
    = lookup (W (Proc.devRef .tc main_arg1)) (W (Proc.devRef .tc main_v13)) (W (Proc.devRef .tc main_v65)) (W (Proc.devRef .tc main_v70)) := by
  unfold part line
  simp only [List.drop_succ_cons, List.drop_zero, List.take_succ_cons, List.take_zero]
  after_results
  rfl

/-- and the normalised values. -/
theorem normal_run : StableHlo.after (part 128 12) W (Proc.devRef .tc main_v98) = normal (W (Proc.devRef .tc main_v91)) := by
  unfold part line
  simp only [List.drop_succ_cons, List.drop_zero, List.take_succ_cons, List.take_zero]
  after_results
  rfl

/-- The stretches are the whole line. -/
theorem line_parts : line.1 = part 0 14 ++ (part 14 5 ++ (part 19 8 ++ (part 27 23 ++ (part 50 21 ++ (part 71 17 ++
    (part 88 13 ++ (part 101 27 ++ part 128 12))))))) := rfl

/-- Running two stretches is running one after the other. -/
theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The whole line leaves the reference's value in its result. -/
theorem value_run : StableHlo.after line.1 W (Proc.devRef .tc main_v98)
    = value (W (Proc.devRef .tc main_arg0)) (W (Proc.devRef .tc main_arg1)) := by
  rw [line_parts]
  simp only [after_two]
  rw [normal_run, lookup_run, (bins_run _).1, (bins_run _).2.1, (bins_run _).2.2.1, (bins_run _).2.2.2,
    (matching_run _).1, (matching_run _).2.1, (matching_run _).2.2.1, (matching_run _).2.2.2,
    (positives_run _).1, (positives_run _).2.1, (positives_run _).2.2.1, (positives_run _).2.2.2.1,
    (positives_run _).2.2.2.2.1, (positives_run _).2.2.2.2.2,
    (ones_run _).1, (ones_run _).2.1, (ones_run _).2.2.1, (ones_run _).2.2.2.1, (ones_run _).2.2.2.2,
    (maps_run _).1, (maps_run _).2.1, (maps_run _).2.2.1, (maps_run _).2.2.2,
    (hard_run _).1, (hard_run _).2.1, (hard_run _).2.2, (softmax_run _).1, (softmax_run _).2]
  rfl

/-- The reference's arguments stay. -/
theorem kept_run : StableHlo.after line.1 W (Proc.devRef .tc main_arg0) = W (Proc.devRef .tc main_arg0)
    ∧ StableHlo.after line.1 W (Proc.devRef .tc main_arg1) = W (Proc.devRef .tc main_arg1) := by
  unfold line
  constructor
  · after_results
  · after_results

/-- The run: the result at the reference's value, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v98) = value (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c main_v98).trans (value_run _), (h c main_arg0).trans (kept_run _).1,
      (h c main_arg1).trans (kept_run _).2⟩)
    (StableHlo.run_hlo defs main line.2 (by decide) (by decide) (by unfold line; simp)
      (by unfold line; intro _ h; (repeat (cases h with | head => rfl | tail _ h => ?_)); exact nomatch h) m ρ)

end Cert.ReferenceIdeal.Run

end
-- ==== Proof.Softmax.lean ====
module

public import proofs.«01_k».proof.Proof.Block

/-! One pixel of the reference: probabilities by division, their first greatest class and their bins, when no score
is the positive infinity. -/

@[expose] public section

set_option maxRecDepth 16384

noncomputable section

namespace Cert.Calib
open Idealize.ShloMosaic

/-- The reference's probability: the exponential over the sum. -/
def quot (x : Fin 19 → EReal) (k : Fin 19) : EReal := Ideal.div (Ideal.exp (x k - top x)) (total x)

/-- When some score is a number and none is the positive infinity, the exponentials are numbers, nonnegative, one of
them one, and they grow with the scores. -/
theorem exists_weights (x : Fin 19 → EReal) (hx : ∀ k, x k < ⊤) (hb : top x ≠ ⊥) :
    ∃ E : Fin 19 → ℝ, (∀ k, Ideal.exp (x k - top x) = (E k : EReal)) ∧ (∀ k, 0 ≤ E k) ∧ (∃ k, E k = 1)
      ∧ ∀ k l, x k < x l → E k < E l := by
  obtain ⟨k0, h0⟩ := exists_top x
  have ht : top x ≠ ⊤ := by rw [← h0]; exact (hx k0).ne
  lift top x to ℝ using ⟨ht, hb⟩ with M hM
  let E : Fin 19 → ℝ := fun k => if x k = ⊥ then 0 else Real.exp ((x k).toReal - M)
  have hE : ∀ k, Ideal.exp (x k - (M : EReal)) = (E k : EReal) := by
    intro k
    by_cases hk : x k = ⊥
    · have : E k = 0 := if_pos hk
      rw [this, hk, EReal.bot_sub]
      rfl
    · have : E k = Real.exp ((x k).toReal - M) := if_neg hk
      rw [this]
      conv_lhs => rw [← EReal.coe_toReal (hx k).ne hk]
      rw [← EReal.coe_sub]
      rfl
  refine ⟨E, hE, ?_, ⟨k0, ?_⟩, ?_⟩
  · intro k
    by_cases hk : x k = ⊥
    · exact le_of_eq (if_pos hk).symm
    · have : E k = Real.exp ((x k).toReal - M) := if_neg hk
      rw [this]
      exact (Real.exp_pos _).le
  · have hk : x k0 ≠ ⊥ := by rw [h0]; exact EReal.coe_ne_bot M
    have : E k0 = Real.exp ((x k0).toReal - M) := if_neg hk
    rw [this, h0, EReal.toReal_coe, sub_self, Real.exp_zero]
  · intro k l hkl
    have hl : x l ≠ ⊥ := (bot_le.trans_lt hkl).ne'
    have el : E l = Real.exp ((x l).toReal - M) := if_neg hl
    by_cases hk : x k = ⊥
    · have : E k = 0 := if_pos hk
      rw [this, el]
      exact Real.exp_pos _
    · have ek : E k = Real.exp ((x k).toReal - M) := if_neg hk
      rw [ek, el]
      apply Real.exp_lt_exp.mpr
      have : (x k).toReal < (x l).toReal := by
        rw [← EReal.coe_lt_coe_iff, EReal.coe_toReal (hx k).ne hk, EReal.coe_toReal (hx l).ne hl]
        exact hkl
      linarith

/-- A sum of numbers among the extended reals. -/
theorem coe_sum (E : Fin 19 → ℝ) : ((∑ k, E k : ℝ) : EReal) = ∑ k, (E k : EReal) := by
  induction (Finset.univ : Finset (Fin 19)) using Finset.cons_induction with
  | empty => rfl
  | cons a S ha ih => rw [Finset.sum_cons, Finset.sum_cons, EReal.coe_add, ih]

/-- With such weights the quotients are the weights over their sum, a positive number, and both forms of the
probability agree. -/
theorem quot_weights (x : Fin 19 → EReal) (E : Fin 19 → ℝ) (hE : ∀ k, Ideal.exp (x k - top x) = (E k : EReal))
    (h0 : ∀ k, 0 ≤ E k) (h1 : ∃ k, E k = 1) :
    0 < ∑ k, E k ∧ ∀ k, quot x k = ((E k * (∑ k, E k)⁻¹ : ℝ) : EReal) ∧ prob x k = quot x k := by
  obtain ⟨k0, hk0⟩ := h1
  have hS : 0 < ∑ k, E k := by
    have := Finset.single_le_sum (f := E) (fun k _ => h0 k) (Finset.mem_univ k0)
    linarith
  have ht : total x = ((∑ k, E k : ℝ) : EReal) := by
    unfold total
    rw [coe_sum]
    exact Finset.sum_congr rfl fun k _ => hE k
  have hne : ((∑ k, E k : ℝ) : EReal) ≠ 0 := by
    rw [Ne, EReal.coe_eq_zero]; exact hS.ne'
  refine ⟨hS, fun k => ⟨?_, ?_⟩⟩
  · unfold quot Ideal.div
    rw [ht, if_neg hne, hE, ← EReal.coe_inv, ← EReal.coe_mul]
  · unfold prob quot Ideal.div
    rw [ht, if_neg hne, if_neg hne, one_mul]

/-- When every score is the negative infinity every quotient is. -/
theorem quot_bot (x : Fin 19 → EReal) (hb : top x = ⊥) (k : Fin 19) : quot x k = ⊥ ∧ bin (prob x k) = 0 := by
  have hx : ∀ k, x k = ⊥ := fun k => le_bot_iff.mp (hb ▸ le_top x k)
  have he : ∀ k, Ideal.exp (x k - top x) = 0 := by
    intro k
    rw [hx, EReal.bot_sub]
    rfl
  have ht : total x = 0 := Finset.sum_eq_zero fun k _ => he k
  constructor
  · unfold quot Ideal.div
    rw [he, ht, if_pos rfl, if_neg (lt_irrefl _)]
  · unfold prob
    rw [he, zero_mul]
    unfold bin
    rw [zero_mul, Cert.KernelIdeal.Model.fptosi_toInt]
    show (min (Ideal.toIntClamped _ _ ((0 : ℝ) : EReal)) 14).toNat = 0
    rw [Ideal.toIntClamped_coe]
    simp

/-- The first class of the greatest quotient is the first class of the greatest score. -/
theorem first_quot (x : Fin 19 → EReal) (hx : ∀ k, x k < ⊤) : first (quot x) = first x := by
  by_cases hb : top x = ⊥
  · have hq : quot x = x := funext fun k => by
      rw [(quot_bot x hb k).1]
      exact (le_bot_iff.mp (hb ▸ le_top x k)).symm
    rw [hq]
  · obtain ⟨E, hE, h0, h1, hm⟩ := exists_weights x hx hb
    obtain ⟨hS, hq⟩ := quot_weights x E hE h0 h1
    have hmono : ∀ k l, x k < x l → quot x k < quot x l := by
      intro k l hkl
      rw [(hq k).1, (hq l).1, EReal.coe_lt_coe_iff]
      exact mul_lt_mul_of_pos_right (hm k l hkl) (inv_pos.mpr hS)
    have hle : ∀ k, quot x k ≤ quot x (first x) := by
      intro k
      rcases (le_top x k).lt_or_eq with h | h
      · exact (hmono _ _ (h.trans_eq (first_top x).symm)).le
      · have : Ideal.exp (x k - top x) = Ideal.exp (x (first x) - top x) := by rw [h, first_top x]
        unfold quot
        rw [this]
    apply first_eq
    · exact le_antisymm (le_top _ _) (Finset.sup_le fun k _ => hle k)
    · intro k hk he
      have hlt : x k < x (first x) := by
        refine lt_of_lt_of_eq ?_ (first_top x).symm
        exact lt_of_le_of_ne (le_top x k) fun h => absurd (first_le x k h) (not_le.mpr hk)
      have := hmono _ _ hlt
      rw [he] at this
      exact absurd (le_top (quot x) (first x)) (not_le.mpr this)

/-- Rounding a nonnegative number down does not change its conversion to a word. -/
theorem fptosi_floor (p : EReal) (h : 0 ≤ p) : Ideal.fptosi 32 (Ideal.liftRound Int.floor p) = Ideal.fptosi 32 p := by
  induction p using EReal.rec with
  | bot => exact absurd h (by simp)
  | top => rfl
  | coe r =>
    have hr : 0 ≤ r := EReal.coe_nonneg.mp h
    have hf : (0 : ℝ) ≤ (⌊r⌋ : ℝ) := by exact_mod_cast Int.floor_nonneg.mpr hr
    unfold Ideal.fptosi
    rw [Ideal.liftRound_coe, Ideal.toIntClamped_coe, Ideal.toIntClamped_coe, if_pos hr, if_pos hf, Int.floor_intCast]

/-- A word not below zero is its own maximum with zero. -/
theorem maxsi_zero (w : BitVec 32) (h : 0 ≤ w.toInt) : IntOp.maxsi 0#32 w = w := by
  have hz : (0#32).toInt = 0 := by decide
  unfold IntOp.maxsi
  split
  · rename_i hs
    rw [BitVec.slt, hz] at hs
    exact absurd (of_decide_eq_true hs) (not_lt.mpr h)
  · rfl

/-- The order of the two words of a minimum does not matter. -/
theorem minsi_comm (v w : BitVec 32) : IntOp.minsi v w = IntOp.minsi w v := by
  unfold IntOp.minsi
  simp only [BitVec.slt, decide_eq_true_eq]
  split <;> split <;> first | rfl | omega | (apply BitVec.eq_of_toInt_eq; omega)

/-- The reference's bin word is the bin of the kernel's probability. -/
theorem bin_quot (x : Fin 19 → EReal) (hx : ∀ k, x k < ⊤) (k : Fin 19) :
    IntOp.minsi 14#32 (IntOp.maxsi 0#32 (Ideal.fptosi 32 (Ideal.liftRound Int.floor (quot x k * 15))))
      = BitVec.ofNat 32 (bin (prob x k)) := by
  by_cases hb : top x = ⊥
  · rw [(quot_bot x hb k).1, (quot_bot x hb k).2, EReal.bot_mul_of_pos (by norm_num)]
    rfl
  · obtain ⟨E, hE, h0, h1, hm⟩ := exists_weights x hx hb
    obtain ⟨hS, hq⟩ := quot_weights x E hE h0 h1
    rw [(hq k).2]
    have hp : 0 ≤ quot x k := by rw [← (hq k).2]; exact prob_nonneg x k
    have hp15 : 0 ≤ quot x k * 15 := mul_nonneg hp (by norm_num)
    rw [fptosi_floor _ hp15, maxsi_zero _ (Cert.KernelIdeal.Model.fptosi_nonneg _ hp15)]
    rw [← Cert.KernelIdeal.Model.bin_word _ hp, minsi_comm]

end Cert.Calib

end
-- ==== Proof.RefHard.lean ====
/- The reference's reductions over the classes, read at a pixel: the greatest logit and the class of the greatest
   probability. -/
module

public import proofs.«01_k».proof.Proof.Spec
public import proofs.«01_k».proof.Proof.Scores
public import proofs.«01_k».proof.Proof.RefModel
public import Idealize.ShloMosaic.Lib.Pointwise

@[expose] public section

set_option maxRecDepth 16384

noncomputable section

namespace Cert.ReferenceIdeal.Model

open Idealize.ShloMosaic Cert.ReferenceIdeal Cert.ReferenceIdeal.Gen Cert.Calib

/-! ### A pixel's indices -/

/-- The classes' axis is the one reduced. -/
theorem dropped : S4x19x512x512.Reduces [1] S4x512x512 := by decide

/-- A class put into a pixel's index. -/
theorem lift_ix (b : Fin 4) (i j : Fin 512) (k : Fin 19) : dropped.lift (ix3 b i j) k = ix4 b k i j := by
  funext a
  refine Fin.ext ?_
  fin_cases a <;> rfl

/-- The scores of a pixel of the image. -/
theorem scores_apply (b : Fin 4) (k : Fin 19) (i j : Fin 512) (X : Reals) : scores X b i.val j.val k = X (ix4 b k i j) := by
  unfold scores
  rw [ofNat_eq, ofNat_eq]

/-- The word of the negative infinity. -/
theorem bottom_bits : Ideal.ofBits .f32 0xFF800000#32 = ⊥ := by
  simp [Ideal.ofBits, Ideal.ieee]

/-- A fold of the maximum from the negative infinity is the supremum. -/
theorem fold_max {s : Finset (Fin 19)} (f : Fin 19 → EReal) : s.fold max ⊥ f = s.sup f := by
  induction s using Finset.cons_induction with
  | empty => rfl
  | cons a S ha ih => rw [Finset.fold_cons, Finset.sup_cons, ih]

/-- A maximum over one axis, at an index, is the fold of the maximum over the indices above it. -/
theorem reduce_max {s t u : Shape} {a : Fin s.rank} (x : FVec Ideal s .f32) (w : BitVec 32) (h' : s.ReducesTo [a] t)
    (h : s.Reduces [a] t) (hu : 0 < u.numel) (j : t.Idx) :
    Host.reduce FloatOps.maximumf x (constant (F := Ideal) u .f32 w) h' hu j
      = (Finset.univ : Finset (Fin (s.size a))).fold (max : EReal → EReal → EReal) (Ideal.ofBits .f32 w) (x ∘ h.lift j) :=
  Host.reduce_eq_fold_single (max : EReal → EReal → EReal) x (constant (F := Ideal) u .f32 w) h' h hu j

/-- The greatest of a constant and an array, at an index. -/
theorem maximum_fill {t u : Shape} (w : BitVec 32) {d : Fin u.rank → Fin t.rank} (h : u.BroadcastsInDim t d) (y : FVec Ideal t .f32) (j : t.Idx) :
    maximumf (broadcastInDim t d h (constant (F := Ideal) u .f32 w)) y j = max (Ideal.ofBits .f32 w) (y j : EReal) := rfl

/-- The greatest logit of a pixel. -/
theorem greatest_apply (X : Reals) (b : Fin 4) (i j : Fin 512) :
    greatest X (ix3 b i j) = top (scores X b i.val j.val) := by
  have hs : (X ∘ dropped.lift (ix3 b i j)) = scores X b i.val j.val := funext fun k =>
    (congrArg X (lift_ix b i j k)).trans (scores_apply b k i j X).symm
  unfold greatest
  rw [maximum_fill, reduce_max _ _ _ dropped, hs, bottom_bits, max_eq_right bot_le]
  exact fold_max _

/-! ### The class of the greatest probability -/

/-- A pair of value and class stands before another when its value is greater, or the same with a class not later. -/
def Before (p q : EReal × BitVec 32) : Prop := q.1 < p.1 ∨ (p.1 = q.1 ∧ p.2.toInt ≤ q.2.toInt)

/-- A pair stands before itself. -/
theorem Before.refl (p : EReal × BitVec 32) : Before p p := Or.inr ⟨rfl, le_rfl⟩

/-- Standing before is transitive. -/
theorem Before.trans {p q r : EReal × BitVec 32} (h : Before p q) (h' : Before q r) : Before p r := by
  rcases h with h | h <;> rcases h' with h' | h'
  · exact Or.inl (h'.trans h)
  · exact Or.inl (h'.1 ▸ h)
  · exact Or.inl (h.1 ▸ h')
  · exact Or.inr ⟨h.1.trans h'.1, h.2.trans h'.2⟩

/-- The reduction's body keeps one of its two pairs, and the kept one stands before both. -/
theorem keeps (p q : EReal × BitVec 32) : (reducer_argmax_f32_i32 (F := Ideal) p q = p ∨ reducer_argmax_f32_i32 (F := Ideal) p q = q)
    ∧ Before (reducer_argmax_f32_i32 (F := Ideal) p q) p ∧ Before (reducer_argmax_f32_i32 (F := Ideal) p q) q := by
  obtain ⟨a, v⟩ := p
  obtain ⟨c, w⟩ := q
  by_cases h : c < a
  · have hn : a ≠ c := h.ne'
    have : reducer_argmax_f32_i32 (F := Ideal) (a, v) (c, w) = (a, v) := by
      simp [reducer_argmax_f32_i32, FloatOps.cmpf, Ideal.cmp, h, hn, IntOp.ori, IntOp.andi, Scalar.select]
    rw [this]
    exact ⟨Or.inl rfl, Before.refl _, Or.inl h⟩
  · by_cases he : a = c
    · subst he
      by_cases hl : v.toInt < w.toInt
      · have : reducer_argmax_f32_i32 (F := Ideal) (a, v) (a, w) = (a, v) := by
          simp [reducer_argmax_f32_i32, FloatOps.cmpf, Ideal.cmp, IntOp.ori, IntOp.andi, Scalar.select, IntOp.cmpi, BitVec.slt, hl]
        rw [this]
        exact ⟨Or.inl rfl, Before.refl _, Or.inr ⟨rfl, hl.le⟩⟩
      · have : reducer_argmax_f32_i32 (F := Ideal) (a, v) (a, w) = (a, w) := by
          simp [reducer_argmax_f32_i32, FloatOps.cmpf, Ideal.cmp, IntOp.ori, IntOp.andi, Scalar.select, IntOp.cmpi, BitVec.slt, hl]
        rw [this]
        exact ⟨Or.inr rfl, Or.inr ⟨rfl, not_lt.mp hl⟩, Before.refl _⟩
    · have : reducer_argmax_f32_i32 (F := Ideal) (a, v) (c, w) = (c, w) := by
        simp [reducer_argmax_f32_i32, FloatOps.cmpf, Ideal.cmp, h, he, IntOp.ori, IntOp.andi, Scalar.select]
      rw [this]
      exact ⟨Or.inr rfl, Or.inl (lt_of_le_of_ne (not_lt.mp h) he), Before.refl _⟩

/-- A fold of the body over a list ends in one of the pairs, and that one stands before all. -/
theorem fold_keeps (l : List (EReal × BitVec 32)) : ∀ p : EReal × BitVec 32,
    (l.foldl (reducer_argmax_f32_i32 (F := Ideal)) p = p ∨ l.foldl (reducer_argmax_f32_i32 (F := Ideal)) p ∈ l)
      ∧ Before (l.foldl (reducer_argmax_f32_i32 (F := Ideal)) p) p
      ∧ ∀ q ∈ l, Before (l.foldl (reducer_argmax_f32_i32 (F := Ideal)) p) q := by
  induction l with
  | nil => exact fun p => ⟨Or.inl rfl, Before.refl p, fun q hq => absurd hq List.not_mem_nil⟩
  | cons a l ih =>
    intro p
    rw [List.foldl_cons]
    obtain ⟨h1, h2, h3⟩ := ih (reducer_argmax_f32_i32 (F := Ideal) p a)
    obtain ⟨k1, k2, k3⟩ := keeps p a
    refine ⟨?_, h2.trans k2, fun q hq => ?_⟩
    · rcases h1 with h1 | h1
      · rcases k1 with k1 | k1
        · exact Or.inl (h1.trans k1)
        · exact Or.inr (by rw [h1, k1]; exact List.mem_cons_self)
      · exact Or.inr (List.mem_cons_of_mem _ h1)
    · rcases List.mem_cons.mp hq with rfl | hq
      · exact h2.trans k3
      · exact h3 q hq

/-- The pairs the reduction goes over at an index are those of the indices over it. -/
theorem mem_fiber {s t : Shape} {a : Fin s.rank} {α β : Type} (x : s.Idx → α) (y : s.Idx → β) (h' : s.ReducesTo [a] t)
    (h : s.Reduces [a] t) (j : t.Idx) (q : α × β) :
    q ∈ Host.argReduceFiber x y h' j ↔ ∃ k, q = (x (h.lift j k), y (h.lift j k)) := by
  unfold Host.argReduceFiber
  simp only [List.mem_map, List.mem_filter, List.mem_finRange, true_and, decide_eq_true_eq]
  rw [Shape.ReducesTo.drop_eq_drop h' h]
  constructor
  · rintro ⟨n, hn, rfl⟩
    refine ⟨s.rowMajor.symm n a, ?_⟩
    rw [← hn, h.lift_drop]
  · rintro ⟨k, rfl⟩
    refine ⟨s.rowMajor (h.lift j k), ?_, ?_⟩
    · rw [Equiv.symm_apply_apply, h.drop_lift]
    · rw [Equiv.symm_apply_apply]

/-- A reduction of pairs is a fold over a list of the pairs above the index. -/
theorem argReduce_list {s t u : Shape} {a : Fin s.rank} (f : EReal × BitVec 32 → EReal × BitVec 32 → EReal × BitVec 32)
    (x : FVec Ideal s .f32) (y : IVec s 32) (c v : BitVec 32) (h' : s.ReducesTo [a] t) (h : s.Reduces [a] t)
    (hu : 0 < u.numel) (j : t.Idx) :
    ∃ l : List (EReal × BitVec 32), (∀ q, q ∈ l ↔ ∃ k, q = (x (h.lift j k), y (h.lift j k)))
      ∧ Host.argReduce (F := Ideal) (φ := .f32) f x y (constant (F := Ideal) u .f32 c) (constantI u 32 v) h' hu j
        = l.foldl f (Ideal.ofBits .f32 c, v) := by
  refine ⟨Host.argReduceFiber x y h' j, mem_fiber x y h' h j, ?_⟩
  rw [Ideal.argReduce_eq_reduce2, Host.reduce2_eq_foldl_fiber]
  rfl

/-- A class's word read signed. -/
theorem class_toInt : ∀ k : Fin 19, (BitVec.ofNat 32 k.val).toInt = k.val := by decide

/-- The array of class numbers. -/
theorem class_iota (b : Fin 4) (k : Fin 19) (i j : Fin 512) :
    iotaInDim S4x19x512x512 32 1 (ix4 b k i j) = BitVec.ofNat 32 k.val := rfl

/-- The array of classes holds the second of each pixel's pair. -/
theorem hard_eq (P : Reals) : hard P = fun j =>
    (Host.argReduce reducer_argmax_f32_i32 P (iotaInDim S4x19x512x512 32 1) (constant (F := Ideal) S_ .f32 0xFF800000#32)
      (constantI S_ 32 0#32) reducesTo_S4x19x512x512_S4x512x512_d1 h_S_ j).2 := rfl

/-- An array of seconds, at an index. -/
theorem second_apply {t : Shape} (y : IVec t 32) (g : t.Idx → EReal × BitVec 32) (h : y = fun j => (g j).2) (j : t.Idx)
    (r : EReal × BitVec 32) (hr : g j = r) : y j = r.2 := by
  rw [h]
  exact congrArg Prod.snd hr

/-- The class a pixel is given: the first one with the greatest value. -/
theorem hard_apply (P : Reals) (b : Fin 4) (i j : Fin 512) :
    hard P (ix3 b i j) = BitVec.ofNat 32 (first fun k => P (ix4 b k i j)).val := by
  obtain ⟨l, hm, he⟩ := argReduce_list (reducer_argmax_f32_i32 (F := Ideal)) P (iotaInDim S4x19x512x512 32 1) 0xFF800000#32 0#32
    reducesTo_S4x19x512x512_S4x512x512_d1 dropped h_S_ (ix3 b i j)
  rw [bottom_bits] at he
  rw [second_apply (hard P) _ (hard_eq P) (ix3 b i j) _ he]
  obtain ⟨h1, -, h3⟩ := fold_keeps l (⊥, 0#32)
  clear he
  generalize l.foldl (reducer_argmax_f32_i32 (F := Ideal)) (⊥, 0#32) = r at h1 h3
  have hm' : ∀ q, q ∈ l ↔ ∃ k : Fin 19, q = (P (ix4 b k i j), BitVec.ofNat 32 k.val) := by
    intro q
    refine (hm q).trans (exists_congr fun k => ?_)
    have e : (P (dropped.lift (ix3 b i j) k), iotaInDim S4x19x512x512 32 1 (dropped.lift (ix3 b i j) k))
        = (P (ix4 b k i j), BitVec.ofNat 32 k.val) :=
      congrArg₂ Prod.mk (congrArg P (lift_ix b i j k))
        ((congrArg (iotaInDim S4x19x512x512 32 1) (lift_ix b i j k)).trans (class_iota b k i j))
    exact ⟨fun h => h.trans e, fun h => h.trans e.symm⟩
  have h4 : ∀ k : Fin 19, Before r (P (ix4 b k i j), BitVec.ofNat 32 k.val) := fun k => h3 _ ((hm' _).mpr ⟨k, rfl⟩)
  rcases h1 with h1 | h1
  · have hb : ∀ k : Fin 19, P (ix4 b k i j) = ⊥ := by
      intro k
      rcases h4 k with h | h
      · rw [h1] at h; exact absurd h not_lt_bot
      · rw [h1] at h; exact h.1.symm
    rw [h1, first_eq _ 0 _ fun k hk => absurd hk (Fin.not_lt_zero k)]
    · rfl
    · exact le_antisymm (le_top (fun k => P (ix4 b k i j)) 0) (Finset.sup_le fun k _ => by rw [hb, hb])
  · obtain ⟨y, hy⟩ := (hm' _).mp h1
    rw [hy] at h4 ⊢
    rw [first_eq _ y _ fun k hk he => ?_]
    · refine le_antisymm (le_top (fun k => P (ix4 b k i j)) y) (Finset.sup_le fun k _ => ?_)
      rcases h4 k with h | h
      · exact le_of_lt h
      · exact le_of_eq h.1.symm
    · have hle : P (ix4 b y i j) ≤ P (ix4 b k i j) := he ▸ le_top (fun k => P (ix4 b k i j)) y
      rcases h4 k with h | h
      · exact absurd h (not_lt.mpr hle)
      · have := h.2
        rw [class_toInt, class_toInt] at this
        rw [Fin.lt_def] at hk
        omega

end Cert.ReferenceIdeal.Model

end
-- ==== Proof.RefReads.lean ====
/- The steps of the reference, read at an index. -/
module

public import proofs.«01_k».proof.Proof.Softmax
public import proofs.«01_k».proof.Proof.RefHard

@[expose] public section

set_option maxRecDepth 16384

noncomputable section

namespace Cert.ReferenceIdeal.Model

open Idealize.ShloMosaic Cert.ReferenceIdeal Cert.ReferenceIdeal.Gen Cert.Calib

variable (b : Fin 4) (k : Fin 19) (i j : Fin 512)

/-- A map over pixels repeated for every class. -/
theorem spread_apply (y : FVec Ideal S4x512x512 .f32) : spread y (ix4 b k i j) = y (ix3 b i j) := by
  unfold spread
  pointwise

/-- A sum over the classes. -/
theorem sums_apply (X : Reals) : sums X (ix3 b i j) = ∑ c, (X (ix4 b c i j) : EReal) := by
  unfold sums
  pointwise

/-- An exponential. -/
theorem exps_apply (X : Reals) :
    exps X (ix4 b k i j) = Ideal.exp (scores X b i.val j.val k - top (scores X b i.val j.val)) := by
  unfold exps
  show Ideal.exp ((X (ix4 b k i j) : EReal) - spread (greatest X) (ix4 b k i j)) = _
  rw [spread_apply, greatest_apply, scores_apply]

/-- The softmax is the quotient of the exponential by the sum of all. -/
theorem softmax_apply (X : Reals) : softmax X (ix4 b k i j) = quot (scores X b i.val j.val) k := by
  unfold softmax
  show Ideal.div (exps X (ix4 b k i j)) (spread (sums (exps X)) (ix4 b k i j)) = _
  rw [spread_apply, sums_apply, exps_apply]
  unfold quot total
  exact congrArg _ (Finset.sum_congr rfl fun c _ => exps_apply b c i j X)

/-- The reference's class of a pixel is the class of the greatest score. -/
theorem hard_softmax (X : Reals) (hX : ∀ n, (X n : EReal) < ⊤) :
    hard (softmax X) (ix3 b i j) = BitVec.ofNat 32 (label X b i.val j.val).val := by
  rw [hard_apply]
  unfold label
  rw [← first_quot (scores X b i.val j.val) fun c => by rw [scores_apply]; exact hX _]
  exact congrArg (fun f => BitVec.ofNat 32 (first f).val) (funext fun c => softmax_apply b c i j X)

/-- The reference's bin of a class at a pixel. -/
theorem bins_apply (X : Reals) (hX : ∀ n, (X n : EReal) < ⊤) :
    bins (softmax X) (ix4 b k i j) = BitVec.ofNat 32 (bin (prob (scores X b i.val j.val) k)) := by
  rw [← bin_quot (scores X b i.val j.val) (fun c => by rw [scores_apply]; exact hX _) k, ← softmax_apply]
  unfold bins clip fillWord fill
  pointwise
  rw [Cert.KernelIdeal.Model.fifteen_bits]
  rfl

/-- A truth value as a number. -/
theorem bit_number : ∀ y c : Fin 19, BitVec.setWidth 32 (IntOp.cmpi .eq (BitVec.ofNat 32 y.val) (BitVec.ofNat 32 c.val))
    = BitVec.ofNat 32 (if y = c then 1 else 0) := by decide +kernel

/-- The number of a small count's word. -/
theorem number (n : ℕ) (hn : n ≤ 1) : FloatOps.sitofp (F := Ideal) .f32 (BitVec.ofNat 32 n) = ((n : ℝ) : EReal) := by
  show (((BitVec.ofNat 32 n).toInt : ℝ) : EReal) = _
  interval_cases n <;> simp

/-- One where the pixel has the class, zero elsewhere. -/
theorem maps_apply (y : IVec S4x512x512 32) (c : Fin 19) (hy : y (ix3 b i j) = BitVec.ofNat 32 c.val) :
    maps y (ix4 b k i j) = (((if c = k then 1 else 0 : ℕ) : ℝ) : EReal) := by
  unfold maps classes
  pointwise
  rw [hy, bit_number]
  exact number _ (by split <;> omega)

/-- A framed map: the map's number inside the image, zero on the frame. -/
theorem framed_apply (M : Reals) (f : ℕ → ℕ → ℕ)
    (hM : ∀ p q : Fin 512, M (ix4 b k p q) = ((f (p.val + 1) (q.val + 1) : ℝ) : EReal))
    (h0 : ∀ r l, ¬(1 ≤ r ∧ r ≤ 512 ∧ 1 ≤ l ∧ l ≤ 512) → f r l = 0) (r l : Fin 514) :
    framed M (ix4 b k r l) = ((f r.val l.val : ℝ) : EReal) := by
  unfold framed
  pointwise
  by_cases h : (1 ≤ r.val ∧ r.val - 1 < 512) ∧ 1 ≤ l.val ∧ l.val - 1 < 512
  · refine (dif_pos h).trans ((hM _ _).trans ?_)
    show ((f (r.val - 1 + 1) (l.val - 1 + 1) : ℝ) : EReal) = _
    rw [Nat.sub_add_cancel h.1.1, Nat.sub_add_cancel h.2.1]
  · refine (dif_neg h).trans ?_
    rw [h0 r.val l.val (by omega)]
    exact number 0 (by omega)

/-- The sum of the eight neighbours in a framed map. -/
theorem eight_apply (y : FVec Ideal S4x19x514x514 .f32) (f : ℕ → ℕ → ℕ)
    (hy : ∀ r l : Fin 514, y (ix4 b k r l) = ((f r.val l.val : ℝ) : EReal)) :
    eight y (ix4 b k i j) = ((around f i.val j.val : ℝ) : EReal) := by
  unfold eight fill
  pointwise
  simp only [hy]
  simp only [← EReal.coe_add, ← Nat.cast_add, around, add_comm 1, add_comm 2]

/-- The sum over the neighbours of a map. -/
theorem conv_apply (M : Reals) (f : ℕ → ℕ → ℕ)
    (hM : ∀ p q : Fin 512, M (ix4 b k p q) = ((f (p.val + 1) (q.val + 1) : ℝ) : EReal))
    (h0 : ∀ r l, ¬(1 ≤ r ∧ r ≤ 512 ∧ 1 ≤ l ∧ l ≤ 512) → f r l = 0) :
    conv M (ix4 b k i j) = ((around f i.val j.val : ℝ) : EReal) :=
  eight_apply b k i j _ f (framed_apply b k M f hM h0)

/-- A small count survives rounding, conversion to a word and clipping. -/
theorem round_word (n : ℕ) (hn : n ≤ 8) :
    IntOp.minsi 8#32 (IntOp.maxsi 0#32 (Ideal.fptosi 32 (Ideal.liftRound Ideal.roundHalfEven ((n : ℝ) : EReal))))
      = BitVec.ofNat 32 n := by
  have hr : Ideal.roundHalfEven (n : ℝ) = n := by
    unfold Ideal.roundHalfEven
    simp
  have hf : Ideal.fptosi 32 (Ideal.liftRound Ideal.roundHalfEven ((n : ℝ) : EReal)) = BitVec.ofNat 32 n := by
    apply BitVec.eq_of_toInt_eq
    rw [Cert.KernelIdeal.Model.fptosi_toInt, Ideal.liftRound_coe, hr, Ideal.toIntClamped_coe]
    interval_cases n <;> simp
  rw [hf]
  interval_cases n <;> decide

/-- The number of neighbours that agree with the pixel. -/
theorem matching_apply (x o p : Reals) (Y : ℕ → ℕ → Fin 19)
    (hx : x (ix4 b k i j) = (((if Y i.val j.val = k then 1 else 0 : ℕ) : ℝ) : EReal))
    (ho : o (ix4 b k i j) = ((around inside i.val j.val : ℝ) : EReal))
    (hp : p (ix4 b k i j) = ((around (labelled Y k) i.val j.val : ℝ) : EReal)) :
    matching x o p (ix4 b k i j) = BitVec.ofNat 32 (agree Y k i.val j.val) := by
  have hle := around_labelled_le Y k i.val j.val
  unfold matching clip fillWord fill
  pointwise
  refine Eq.trans ?_ (round_word _ (agree_le Y k i.val j.val))
  rw [hx, ho, hp, ← EReal.coe_one]
  refine congrArg (fun z => IntOp.minsi 8#32 (IntOp.maxsi 0#32 (Ideal.fptosi 32 (Ideal.liftRound Ideal.roundHalfEven z)))) ?_
  rw [← EReal.coe_sub, ← EReal.coe_sub, ← EReal.coe_mul, ← EReal.coe_mul, ← EReal.coe_add]
  unfold agree
  congr 1
  split
  · simp
  · rw [Nat.cast_sub hle]; simp

/-- A class's number, not below zero, stays as it is. -/
theorem wrap_class : ∀ c : Fin 19, Scalar.select (IntOp.cmpi .slt (BitVec.ofNat 32 c.val) 0#32)
    (IntOp.addi (BitVec.ofNat 32 c.val) 19#32) (BitVec.ofNat 32 c.val) = BitVec.ofNat 32 c.val := by decide +kernel

/-- A small word, not below zero, stays as it is. -/
theorem wrap_apply (n : BitVec 32) (x : Words) (m : ℕ) (hm : m ≤ 14) (hx : x (ix4 b k i j) = BitVec.ofNat 32 m) :
    wrap n x (ix4 b k i j) = BitVec.ofNat 32 m := by
  unfold wrap fillWord
  pointwise
  rw [hx]
  have : IntOp.cmpi .slt (BitVec.ofNat 32 m) 0#32 = 0#1 := by interval_cases m <;> decide
  rw [this]
  rfl

/-- The class numbers, repeated for every pixel. -/
theorem classes_apply : broadcastInDim S4x19x512x512 ![0, 1, 2, 3] bcast_S1x19x1x1_S4x19x512x512_0_1_2_3
    (wrapClasses classes) (ix4 b k i j) = BitVec.ofNat 32 k.val := by
  unfold wrapClasses classes
  pointwise
  exact wrap_class k

/-- A coordinate read at an index. -/
theorem coordinate_apply (x : Words) (z : Fin 1) : coordinate x (ix5 b k i j z) = x (ix4 b k i j) := by
  unfold coordinate
  pointwise

/-- A small word clamped to a bound it does not pass. -/
theorem clamp_word {s : Shape} (I : IVec s 32) (e e' : s.Idx) (he : e = e') (m n : ℕ) (hI : I e' = BitVec.ofNat 32 m)
    (hn : n ≤ 18) (h : m ≤ n) : min (I e).toInt.toNat n + 0 + 0 = m := by
  have : (BitVec.ofNat 32 m).toInt = m := by
    rw [BitVec.toInt_ofNat', Int.bmod_eq_of_le (by omega) (by omega)]
  rw [he, hI, this]
  omega

/-- Where the gather finds coordinate `z` of the table's index for an element of the result. -/
theorem start_index (z : Fin 3) (hz) : gather_S19x9x15_S4x19x512x512x3_S4x19x512x512_n_012_n_n_012_4_111.siIdx
    (ix4 b k i j) ⟨z.val, hz⟩ = ix5 b k i j z := by
  funext a
  refine Fin.ext ?_
  fin_cases a <;> rfl

/-- The table read at class, number of agreeing neighbours and bin. -/
theorem lookup_apply (T : FVec Ideal S19x9x15 .f32) (a w : Words) (m n : ℕ) (hm : m ≤ 8) (hn : n ≤ 14)
    (ha : a (ix4 b k i j) = BitVec.ofNat 32 m) (hw : w (ix4 b k i j) = BitVec.ofNat 32 n) :
    lookup T classes a w (ix4 b k i j) = T (ix3 k (Fin.ofNat 9 m) (Fin.ofNat 15 n)) := by
  unfold lookup
  generalize hI : concatenate S4x19x512x512x3 4 _ _ = I
  have h0 : I (ix5 b k i j 0) = BitVec.ofNat 32 k.val := by
    rw [← hI]
    pointwise
    exact (coordinate_apply b k i j _ 0).trans (classes_apply b k i j)
  have h1 : I (ix5 b k i j 1) = BitVec.ofNat 32 m := by
    rw [← hI]
    pointwise
    exact (coordinate_apply b k i j _ 0).trans (wrap_apply b k i j 9#32 a m (by omega) ha)
  have h2 : I (ix5 b k i j 2) = BitVec.ofNat 32 n := by
    rw [← hI]
    pointwise
    exact (coordinate_apply b k i j _ 0).trans (wrap_apply b k i j 15#32 w n hn hw)
  refine congrArg T (funext fun z => Fin.ext ?_)
  fin_cases z
  · exact clamp_word I _ _ (start_index b k i j 0 _) k.val 18 h0 (by omega) (by omega)
  · exact (clamp_word I _ _ (start_index b k i j 1 _) m 8 h1 (by omega) hm).trans (Nat.mod_eq_of_lt (by omega)).symm
  · exact (clamp_word I _ _ (start_index b k i j 2 _) n 14 h2 (by omega) hn).trans (Nat.mod_eq_of_lt (by omega)).symm

/-- The quotient by the sum over the classes. -/
theorem normal_apply (y : Reals) :
    normal y (ix4 b k i j) = Ideal.div (y (ix4 b k i j)) (nonzero (∑ c, (y (ix4 b c i j) : EReal))) := by
  rw [← sums_apply]
  unfold normal nonzero
  pointwise

end Cert.ReferenceIdeal.Model

end
-- ==== Proof.RefValue.lean ====
/- The reference's value is the calibration, for logits below the positive infinity. -/
module

public import proofs.«01_k».proof.Proof.RefReads

@[expose] public section

set_option maxRecDepth 16384

noncomputable section

namespace Cert.ReferenceIdeal.Model

open Idealize.ShloMosaic Cert.ReferenceIdeal Cert.ReferenceIdeal.Gen Cert.Calib

variable (X : Reals) (T : FVec Ideal S19x9x15 .f32) (hX : ∀ n, (X n : EReal) < ⊤)
include hX

/-- The class maps of the reference's labels: one where the pixel has the class. -/
theorem labels_map (b : Fin 4) (k : Fin 19) (i j : Fin 512) : maps (hard (softmax X)) (ix4 b k i j)
    = (((if label X b i.val j.val = k then 1 else 0 : ℕ) : ℝ) : EReal) :=
  maps_apply b k i j _ _ (hard_softmax b i j X hX)

/-- The sums of the class maps over the neighbours. -/
theorem labels_conv (b : Fin 4) (k : Fin 19) (i j : Fin 512) : conv (maps (hard (softmax X))) (ix4 b k i j)
    = ((around (labelled (label X b) k) i.val j.val : ℝ) : EReal) := by
  refine conv_apply b k i j _ _ (fun p q => ?_) fun r l h => if_neg h
  have e : labelled (label X b) k (p.val + 1) (q.val + 1) = if label X b p.val q.val = k then 1 else 0 :=
    if_pos ⟨by omega, by omega, by omega, by omega⟩
  rw [labels_map X hX, e]

omit hX in
/-- The number of neighbours inside the image. -/
theorem ones_conv (b : Fin 4) (k : Fin 19) (i j : Fin 512) : conv (fill 0x3F800000#32) (ix4 b k i j)
    = ((around inside i.val j.val : ℝ) : EReal) := by
  refine conv_apply b k i j _ _ (fun p q => ?_) fun r l h => if_neg h
  unfold fill
  pointwise
  unfold inside
  rw [if_pos ⟨by omega, by omega, by omega, by omega⟩, Nat.cast_one, EReal.coe_one]

/-- The entries the reference reads from the table. -/
theorem lookup_entry (b : Fin 4) (k : Fin 19) (i j : Fin 512) :
    lookup T classes (matching (maps (hard (softmax X))) (conv (fill 0x3F800000#32)) (conv (maps (hard (softmax X)))))
      (bins (softmax X)) (ix4 b k i j) = entry X T b k i.val j.val :=
  lookup_apply b k i j T _ _ _ _ (agree_le _ _ _ _) (bin_le _)
    (matching_apply b k i j _ _ _ (label X b) (labels_map X hX b k i j) (ones_conv b k i j) (labels_conv X hX b k i j))
    (bins_apply b k i j X hX)

omit hX in
/-- Entries over the pixel's sum of entries. -/
theorem normal_entry (L : Reals) (hL : ∀ b k i j, L (ix4 b k i j) = entry X T b k i.val j.val) (b : Fin 4) (k : Fin 19)
    (i j : Fin 512) : normal L (ix4 b k i j) = result X T (ix4 b k i j) :=
  (normal_apply b k i j L).trans
    (congrArg₂ (fun x y => Ideal.div x (nonzero y)) (hL b k i j) (Finset.sum_congr rfl fun c _ => hL b c i j))

/-- The reference computes the calibration. -/
theorem value_eq : value X T = result X T := by
  funext n
  rw [← ix4_eta n]
  exact normal_entry X T _ (lookup_entry X T hX) _ _ _ _

end Cert.ReferenceIdeal.Model

end
-- ==== Proof.Below.lean ====
/- What the precondition says: every logit is below the positive infinity. -/
module

public import proofs.«01_k».proof.Pre_below_infinity
public import Idealize.ShloMosaic.Lib.ReduceAll
public import Idealize.ShloMosaic.PureOps.Ideal.Laws

@[expose] public section

set_option maxRecDepth 16384

noncomputable section

namespace Cert.Pre_below_infinity

open Idealize.ShloMosaic

/-- The shape relations the precondition's operations take. -/
theorem facts : Facts where
  bcast_S_S4x19x512x512 := by decide
  reducesTo_S4x19x512x512_S_d0_1_2_3 := by decide
  h_S_ := by decide

/-- The word of the positive infinity. -/
theorem infinity_bits : Ideal.ofBits .f32 0x7F800000#32 = ⊤ := by
  simp [Ideal.ofBits, Ideal.ieee]

/-- A number compared below a constant array of the positive infinity is below it. -/
theorem below_fill {s u : Shape} {d : Fin u.rank → Fin s.rank} (h : u.BroadcastsInDim s d) (x : FVec Ideal s .f32) (n : s.Idx)
    (e : cmpf .olt x (broadcastInDim s d h (constant (F := Ideal) u .f32 0x7F800000#32)) n = 1#1) : (x n : EReal) < ⊤ := by
  have e' : Ideal.cmp .olt (x n) (Ideal.ofBits .f32 0x7F800000#32) = 1#1 := e
  rw [infinity_bits] at e'
  by_contra hn
  unfold Ideal.cmp at e'
  simp [hn] at e'

/-- A single value has one index. -/
instance : Subsingleton S_.Idx := ⟨fun _ _ => funext fun a => a.elim0⟩

/-- The precondition, read at an index. -/
theorem below [Facts] (X : FVec Ideal S4x19x512x512 .f32) (T : FVec Ideal S19x9x15 .f32)
    (h : fn (F := Ideal) X T = fun _ => 1#1) (n : S4x19x512x512.Idx) : (X n : EReal) < ⊤ := by
  have h0 := congrFun h (Shape.Idx.first Facts.h_S_)
  dsimp only [fn] at h0
  exact below_fill _ X n (Host.reduce_andi_all _ _ _ _ _ h0 n)

end Cert.Pre_below_infinity

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Whole
public import proofs.«01_k».proof.Proof.RefRun
public import proofs.«01_k».proof.Proof.RefValue
public import proofs.«01_k».proof.Proof.Below
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference runs, keeps its arguments and leaves every counter at zero. -/
theorem frame_reference : Cert.quiescent_ReferenceIdeal := by
  intro m g _
  refine (θ_run _ _ _).mono (fun r h => ⟨h, sem_eq_zero_of_no_sems (by decide) r.2⟩) ?_
  hlo_run

/-- From equal arguments, the logits below the positive infinity, both programs end with the calibration. -/
theorem same_result : Cert.algebraic_KernelIdeal_ReferenceIdeal_pre_below_infinity
    (hPre_below_infinity := Cert.Pre_below_infinity.facts) := by
  intro m g m' g' hpre hargs
  refine ⟨fun c => Cert.KernelIdeal.Whole.whole m c, Cert.KernelIdeal.Whole.run m g, ?_⟩
  refine (θ_run _ _ _).mono (fun r h c => ⟨(h c).1.trans ?_, (h c).2⟩) (Cert.ReferenceIdeal.Run.run m' g')
  have hb := @Cert.Pre_below_infinity.below Cert.Pre_below_infinity.facts _ _ (hpre c)
  exact (congrArg₂ Cert.ReferenceIdeal.Model.value (hargs c).1 (hargs c).2).trans
    (Cert.ReferenceIdeal.Model.value_eq _ _ hb)

/-- Everything claimed. -/
theorem claim : Cert.Claim := ⟨Cert.Kernel.Gen.facts, Cert.KernelIdeal.Gen.facts, Cert.ReferenceIdeal.Gen.facts,
  Cert.Pre_below_infinity.facts, fun m ρ _ => Cert.Kernel.Gen.frame m ρ, fun m ρ _ => Cert.KernelIdeal.Gen.frame m ρ,
  fun m ρ _ => Cert.KernelIdeal.Gen.frame m ρ, frame_reference, fun m g _ => frame_reference m g trivial, trivial,
  same_result⟩

end Cert.Proof

end
